-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "underflow" .f32 0xC2B00000#32 ⊥

def preserves_Kernel2_Kernel2Ideal : Prop :=
  True

def preserves_Kernel3_Kernel3Ideal : Prop :=
  True

def preserves_Kernel4_Kernel4Ideal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)) (v6 : (c : Dev Cert.Kernel2Ideal.nD) → Buf (Elt Ideal) ((c.tc : Thread Cert.Kernel2Ideal.nD Cert.Kernel2Ideal.τ).loc Cert.Kernel2Ideal.main_v15_6)) (v7 : (c : Dev Cert.Kernel2Ideal.nD) → Buf (Elt Ideal) ((c.tc : Thread Cert.Kernel2Ideal.nD Cert.Kernel2Ideal.τ).loc Cert.Kernel2Ideal.main_v15_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_v15_6) = v6 c
          ∧ r.2.mem ((c.tc : Thread Cert.Kernel2Ideal.nD Cert.Kernel2Ideal.τ).loc Cert.Kernel2Ideal.main_v15_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v66) = v3 c
          ∧ r.2.mem ((c.tc : Thread Cert.Reference2Ideal.nD Cert.Reference2Ideal.τ).loc Cert.Reference2Ideal.main_v55) = v4 c
          ∧ r.2.mem ((c.tc : Thread Cert.Reference2Ideal.nD Cert.Reference2Ideal.τ).loc Cert.Reference2Ideal.main_v56) = v5 c
          ∧ r.2.mem ((c.tc : Thread Cert.Reference2Ideal.nD Cert.Reference2Ideal.τ).loc Cert.Reference2Ideal.main_v61) = v6 c
          ∧ r.2.mem ((c.tc : Thread Cert.Reference2Ideal.nD Cert.Reference2Ideal.τ).loc Cert.Reference2Ideal.main_v59) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ preserves_Kernel3_Kernel3Ideal
    ∧ preserves_Kernel4_Kernel4Ideal
    ∧ algebraic_KernelIdeal_ReferenceIdeal (hKernelIdeal := hKernelIdeal) (hReferenceIdeal := hReferenceIdeal)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
-- ==== Kernel.lean ====
abbrev S2x16512x256 : Shape := ⟨3, ![2, 16512, 256]⟩
abbrev S2x64 : Shape := ⟨2, ![2, 64]⟩
abbrev S2x1x64 : Shape := ⟨3, ![2, 1, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S256x384 : Shape := ⟨2, ![256, 384]⟩
abbrev S2x128x256 : Shape := ⟨3, ![2, 128, 256]⟩
abbrev S1x1x64 : Shape := ⟨3, ![1, 1, 64]⟩
abbrev S128x256 : Shape := ⟨2, ![128, 256]⟩
abbrev S1x128x64 : Shape := ⟨3, ![1, 128, 64]⟩
abbrev S128x64 : Shape := ⟨2, ![128, 64]⟩
abbrev S128x128 : Shape := ⟨2, ![128, 128]⟩
abbrev S1x256x64 : Shape := ⟨3, ![1, 256, 64]⟩
abbrev S256x64 : Shape := ⟨2, ![256, 64]⟩
abbrev S128x384 : Shape := ⟨2, ![128, 384]⟩
abbrev S1x128x128 : Shape := ⟨3, ![1, 128, 128]⟩
abbrev S1 : Shape := ⟨1, ![1]⟩
abbrev S1x1x1 : Shape := ⟨3, ![1, 1, 1]⟩
abbrev S1x64 : Shape := ⟨2, ![1, 64]⟩
abbrev S128 : Shape := ⟨1, ![128]⟩
abbrev S128x1 : Shape := ⟨2, ![128, 1]⟩
abbrev S1x128x256 : Shape := ⟨3, ![1, 128, 256]⟩

abbrev nBuf : Space → Nat
  | .hbm => 16
  | .vmem => 8
  | .smem => 0
  | _ => 0

abbrev bufTy : (tb : Table) → Fin (tcTables nBuf tb) → BufTy
  | .hbm, ⟨0, _⟩ => ⟨S2x16512x256, .bf16⟩
  | .hbm, ⟨1, _⟩ => ⟨S2x16512x256, .bf16⟩
  | .hbm, ⟨2, _⟩ => ⟨S2x16512x256, .bf16⟩
  | .hbm, ⟨3, _⟩ => ⟨S2x64, .f32⟩
  | .hbm, ⟨4, _⟩ => ⟨S2x1x64, .f32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .i1⟩
  | .hbm, ⟨12, _⟩ => ⟨S256x128, .i1⟩
  | .hbm, ⟨13, _⟩ => ⟨S256x384, .i1⟩
  | .hbm, ⟨14, _⟩ => ⟨S256x384, .bf16⟩
  | .hbm, ⟨15, _⟩ => ⟨S2x16512x256, .bf16⟩
  | .local _ .vmem, ⟨0, _⟩ => ⟨S2x128x256, .bf16⟩
  | .local _ .vmem, ⟨1, _⟩ => ⟨S2x128x256, .bf16⟩
  | .local _ .vmem, ⟨2, _⟩ => ⟨S2x16512x256, .bf16⟩
  | .local _ .vmem, ⟨3, _⟩ => ⟨S2x16512x256, .bf16⟩
  | .local _ .vmem, ⟨4, _⟩ => ⟨S256x384, .bf16⟩
  | .local _ .vmem, ⟨5, _⟩ => ⟨S1x1x64, .f32⟩
  | .local _ .vmem, ⟨6, _⟩ => ⟨S2x128x256, .bf16⟩
  | .local _ .vmem, ⟨7, _⟩ => ⟨S2x128x256, .bf16⟩
  | _, _ => ⟨S2x16512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![129], ![false]⟩

def k0_mult1 (arg7 : BitVec 32) : BitVec 32 :=
  let c0_i32 : BitVec 32 := 0#32
  let v151 : BitVec 32 := Scalar.maxsi arg7 c0_i32
  v151

def k0_off1 (arg7 : BitVec 32) : Fin 3 → Nat :=
  let c0_71 : Index := 0#32
  let c0_i32 : BitVec 32 := 0#32
  let v151 : BitVec 32 := Scalar.maxsi arg7 c0_i32
  let v152 : BitVec 32 := v151
  let v162 : Index := Scalar.indexCast v152
  let c0_72 : Index := 0#32
  ![0, v162.toNat, 0]
def k0_off2 (arg7 : BitVec 32) : Fin 3 → Nat :=
  let c0_74 : Index := 0#32
  let c0_i32 : BitVec 32 := 0#32
  let v151 : BitVec 32 := Scalar.maxsi arg7 c0_i32
  let v152 : BitVec 32 := v151
  let v166 : Index := Scalar.indexCast v152
  let c64_75 : Index := 64#32
  ![0, v166.toNat, 64]
def k0_off3 (arg7 : BitVec 32) : Fin 3 → Nat :=
  let c0_77 : Index := 0#32
  let c0_i32 : BitVec 32 := 0#32
  let v151 : BitVec 32 := Scalar.maxsi arg7 c0_i32
  let v152 : BitVec 32 := v151
  let v170 : Index := Scalar.indexCast v152
  let c128_78 : Index := 128#32
  ![0, v170.toNat, 128]
def k0_off4 (arg7 : BitVec 32) : Fin 3 → Nat :=
  let c0_80 : Index := 0#32
  let c0_i32 : BitVec 32 := 0#32
  let v151 : BitVec 32 := Scalar.maxsi arg7 c0_i32
  let v152 : BitVec 32 := v151
  let v174 : Index := Scalar.indexCast v152
  let c192_81 : Index := 192#32
  ![0, v174.toNat, 192]
def k0_off5 (arg7 : BitVec 32) : Fin 3 → Nat :=
  let c1_83 : Index := 1#32
  let c0_i32 : BitVec 32 := 0#32
  let v151 : BitVec 32 := Scalar.maxsi arg7 c0_i32
  let v152 : BitVec 32 := v151
  let v178 : Index := Scalar.indexCast v152
  let c0_84 : Index := 0#32
  ![1, v178.toNat, 0]
def k0_off6 (arg7 : BitVec 32) : Fin 3 → Nat :=
  let c1_86 : Index := 1#32
  let c0_i32 : BitVec 32 := 0#32
  let v151 : BitVec 32 := Scalar.maxsi arg7 c0_i32
  let v152 : BitVec 32 := v151
  let v182 : Index := Scalar.indexCast v152
  let c64_87 : Index := 64#32
  ![1, v182.toNat, 64]
def k0_off7 (arg7 : BitVec 32) : Fin 3 → Nat :=
  let c1_89 : Index := 1#32
  let c0_i32 : BitVec 32 := 0#32
  let v151 : BitVec 32 := Scalar.maxsi arg7 c0_i32
  let v152 : BitVec 32 := v151
  let v186 : Index := Scalar.indexCast v152
  let c128_90 : Index := 128#32
  ![1, v186.toNat, 128]
def k0_off8 (arg7 : BitVec 32) : Fin 3 → Nat :=
  let c1_92 : Index := 1#32
  let c0_i32 : BitVec 32 := 0#32
  let v151 : BitVec 32 := Scalar.maxsi arg7 c0_i32
  let v152 : BitVec 32 := v151
  let v190 : Index := Scalar.indexCast v152
  let c192_93 : Index := 192#32
  ![1, v190.toNat, 192]

def k0_chk1 (arg7 : BitVec 32) : Prop :=
  (128 ∣ (k0_mult1 arg7).toNat) ∧
  (∀ a, (k0_off1 arg7) a + S1x256x64.size a ≤ S2x16512x256.size a) ∧
  (∀ a, (k0_off2 arg7) a + S1x256x64.size a ≤ S2x16512x256.size a) ∧
  (∀ a, (k0_off3 arg7) a + S1x256x64.size a ≤ S2x16512x256.size a) ∧
  (∀ a, (k0_off4 arg7) a + S1x256x64.size a ≤ S2x16512x256.size a) ∧
  (∀ a, (k0_off5 arg7) a + S1x256x64.size a ≤ S2x16512x256.size a) ∧
  (∀ a, (k0_off6 arg7) a + S1x256x64.size a ≤ S2x16512x256.size a) ∧
  (∀ a, (k0_off7 arg7) a + S1x256x64.size a ≤ S2x16512x256.size a) ∧
  (∀ a, (k0_off8 arg7) a + S1x256x64.size a ≤ S2x16512x256.size a)
theorem k0_mult1_dvd : ∀ (arg7 : BitVec 32) (k0_hw1 : k0_chk1 arg7), 128 ∣ (k0_mult1 arg7).toNat := fun arg7 k0_hw1 => k0_hw1.1
theorem k0_off1_inb : ∀ (arg7 : BitVec 32) (k0_hw1 : k0_chk1 arg7), ∀ a, (k0_off1 arg7) a + S1x256x64.size a ≤ S2x16512x256.size a := fun arg7 k0_hw1 => k0_hw1.2.1
theorem k0_off2_inb : ∀ (arg7 : BitVec 32) (k0_hw1 : k0_chk1 arg7), ∀ a, (k0_off2 arg7) a + S1x256x64.size a ≤ S2x16512x256.size a := fun arg7 k0_hw1 => k0_hw1.2.2.1
theorem k0_off3_inb : ∀ (arg7 : BitVec 32) (k0_hw1 : k0_chk1 arg7), ∀ a, (k0_off3 arg7) a + S1x256x64.size a ≤ S2x16512x256.size a := fun arg7 k0_hw1 => k0_hw1.2.2.2.1
theorem k0_off4_inb : ∀ (arg7 : BitVec 32) (k0_hw1 : k0_chk1 arg7), ∀ a, (k0_off4 arg7) a + S1x256x64.size a ≤ S2x16512x256.size a := fun arg7 k0_hw1 => k0_hw1.2.2.2.2.1
theorem k0_off5_inb : ∀ (arg7 : BitVec 32) (k0_hw1 : k0_chk1 arg7), ∀ a, (k0_off5 arg7) a + S1x256x64.size a ≤ S2x16512x256.size a := fun arg7 k0_hw1 => k0_hw1.2.2.2.2.2.1
theorem k0_off6_inb : ∀ (arg7 : BitVec 32) (k0_hw1 : k0_chk1 arg7), ∀ a, (k0_off6 arg7) a + S1x256x64.size a ≤ S2x16512x256.size a := fun arg7 k0_hw1 => k0_hw1.2.2.2.2.2.2.1
theorem k0_off7_inb : ∀ (arg7 : BitVec 32) (k0_hw1 : k0_chk1 arg7), ∀ a, (k0_off7 arg7) a + S1x256x64.size a ≤ S2x16512x256.size a := fun arg7 k0_hw1 => k0_hw1.2.2.2.2.2.2.2.1
theorem k0_off8_inb : ∀ (arg7 : BitVec 32) (k0_hw1 : k0_chk1 arg7), ∀ a, (k0_off8 arg7) a + S1x256x64.size a ≤ S2x16512x256.size a := fun arg7 k0_hw1 => k0_hw1.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "underflow" => some ⊥
  | _ => none
-- ==== ReferenceIdeal.lean ====
abbrev S2x16512x256 : Shape := ⟨3, ![2, 16512, 256]⟩
abbrev S2x64 : Shape := ⟨2, ![2, 64]⟩
abbrev S2x16512x4x64 : Shape := ⟨4, ![2, 16512, 4, 64]⟩
abbrev S2x4x16512x64 : Shape := ⟨4, ![2, 4, 16512, 64]⟩
abbrev S16512 : Shape := ⟨1, ![16512]⟩
abbrev S2x4x16512x16512 : Shape := ⟨4, ![2, 4, 16512, 16512]⟩
abbrev S1x16512 : Shape := ⟨2, ![1, 16512]⟩
abbrev S16512x1 : Shape := ⟨2, ![16512, 1]⟩
abbrev S16512x16512 : Shape := ⟨2, ![16512, 16512]⟩
abbrev S_ : Shape := ⟨0, ![]⟩
abbrev S2x16512x4 : Shape := ⟨3, ![2, 16512, 4]⟩
abbrev S2x16512x4x1 : Shape := ⟨4, ![2, 16512, 4, 1]⟩
abbrev S1x64 : Shape := ⟨2, ![1, 64]⟩
abbrev S64 : Shape := ⟨1, ![64]⟩
abbrev S1x1x1x64 : Shape := ⟨4, ![1, 1, 1, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x16512x256, .bf16⟩
  | .hbm, ⟨1, _⟩ => ⟨S2x16512x256, .bf16⟩
  | .hbm, ⟨2, _⟩ => ⟨S2x16512x256, .bf16⟩
  | .hbm, ⟨3, _⟩ => ⟨S2x64, .f32⟩
  | .hbm, ⟨4, _⟩ => ⟨S2x16512x256, .f32⟩
  | .hbm, ⟨5, _⟩ => ⟨S2x16512x4x64, .f32⟩
  | .hbm, ⟨6, _⟩ => ⟨S2x4x16512x64, .f32⟩
  | .hbm, ⟨7, _⟩ => ⟨S2x16512x256, .f32⟩
  | .hbm, ⟨8, _⟩ => ⟨S2x16512x4x64, .f32⟩
  | .hbm, ⟨9, _⟩ => ⟨S2x4x16512x64, .f32⟩
  | .hbm, ⟨10, _⟩ => ⟨S2x16512x256, .f32⟩
  | .hbm, ⟨11, _⟩ => ⟨S2x16512x4x64, .f32⟩
  | .hbm, ⟨12, _⟩ => ⟨S2x4x16512x64, .f32⟩
  | .hbm, ⟨13, _⟩ => ⟨S16512, .i32⟩
  | .hbm, ⟨14, _⟩ => ⟨S2x4x16512x16512, .f32⟩
  | .hbm, ⟨15, _⟩ => ⟨S1x16512, .i32⟩
  | .hbm, ⟨16, _⟩ => ⟨S16512x1, .i32⟩
  | .hbm, ⟨17, _⟩ => ⟨S16512x16512, .i32⟩
  | .hbm, ⟨18, _⟩ => ⟨S16512x16512, .i32⟩
  | .hbm, ⟨19, _⟩ => ⟨S16512x16512, .i1⟩
  | .hbm, ⟨20, _⟩ => ⟨S1x16512, .i32⟩
  | .hbm, ⟨21, _⟩ => ⟨S_, .i32⟩
  | .hbm, ⟨22, _⟩ => ⟨S1x16512, .i32⟩
  | .hbm, ⟨23, _⟩ => ⟨S1x16512, .i1⟩
  | .hbm, ⟨24, _⟩ => ⟨S16512x16512, .i1⟩
  | .hbm, ⟨25, _⟩ => ⟨S16512x16512, .i1⟩
  | .hbm, ⟨26, _⟩ => ⟨S2x4x16512x16512, .f32⟩
  | .hbm, ⟨27, _⟩ => ⟨S2x4x16512x16512, .f32⟩
  | .hbm, ⟨28, _⟩ => ⟨S_, .f32⟩
  | .hbm, ⟨29, _⟩ => ⟨S2x4x16512x16512, .f32⟩
  | .hbm, ⟨30, _⟩ => ⟨S2x4x16512x16512, .f32⟩
  | .hbm, ⟨31, _⟩ => ⟨S2x4x16512x16512, .f32⟩
  | .hbm, ⟨32, _⟩ => ⟨S2x4x16512x16512, .f32⟩
  | .hbm, ⟨33, _⟩ => ⟨S2x4x16512x16512, .i1⟩
  | .hbm, ⟨34, _⟩ => ⟨S2x4x16512x16512, .f32⟩
  | .hbm, ⟨35, _⟩ => ⟨S2x4x16512x16512, .f32⟩
  | .hbm, ⟨36, _⟩ => ⟨S2x4x16512x16512, .f32⟩
  | .hbm, ⟨37, _⟩ => ⟨S2x4x16512x16512, .f32⟩
  | .hbm, ⟨38, _⟩ => ⟨S2x4x16512x16512, .f32⟩
  | .hbm, ⟨39, _⟩ => ⟨S2x4x16512x16512, .f32⟩
  | .hbm, ⟨40, _⟩ => ⟨S2x4x16512x16512, .f32⟩
  | .hbm, ⟨41, _⟩ => ⟨S2x4x16512x16512, .f32⟩
  | .hbm, ⟨42, _⟩ => ⟨S2x4x16512x16512, .f32⟩
  | .hbm, ⟨43, _⟩ => ⟨S_, .f32⟩
  | .hbm, ⟨44, _⟩ => ⟨S_, .f32⟩
  | .hbm, ⟨45, _⟩ => ⟨S2x4x16512x16512, .i1⟩
  | .hbm, ⟨46, _⟩ => ⟨S2x4x16512x16512, .f32⟩
  | .hbm, ⟨47, _⟩ => ⟨S2x4x16512x16512, .f32⟩
  | .hbm, ⟨48, _⟩ => ⟨S_, .f32⟩
  | .hbm, ⟨49, _⟩ => ⟨S_, .f32⟩
  | .hbm, ⟨50, _⟩ => ⟨S2x4x16512x16512, .f32⟩
  | .hbm, ⟨51, _⟩ => ⟨S2x4x16512x16512, .f32⟩
  | .hbm, ⟨52, _⟩ => ⟨S2x4x16512x16512, .f32⟩
  | .hbm, ⟨53, _⟩ => ⟨S_, .f32⟩
  | .hbm, ⟨54, _⟩ => ⟨S2x4x16512x16512, .f32⟩
  | .hbm, ⟨55, _⟩ => ⟨S2x4x16512x16512, .f32⟩
  | .hbm, ⟨56, _⟩ => ⟨S2x4x16512x16512, .f32⟩
  | .hbm, ⟨57, _⟩ => ⟨S2x4x16512x16512, .f32⟩
  | .hbm, ⟨58, _⟩ => ⟨S2x4x16512x16512, .i1⟩
  | .hbm, ⟨59, _⟩ => ⟨S2x4x16512x16512, .f32⟩
  | .hbm, ⟨60, _⟩ => ⟨S2x4x16512x16512, .f32⟩
  | .hbm, ⟨61, _⟩ => ⟨S2x4x16512x16512, .f32⟩
  | .hbm, ⟨62, _⟩ => ⟨S2x4x16512x16512, .f32⟩
  | .hbm, ⟨63, _⟩ => ⟨S2x4x16512x16512, .f32⟩
  | .hbm, ⟨64, _⟩ => ⟨S2x4x16512x16512, .f32⟩
  | .hbm, ⟨65, _⟩ => ⟨S2x4x16512x16512, .f32⟩
  | .hbm, ⟨66, _⟩ => ⟨S2x4x16512x16512, .f32⟩
  | .hbm, ⟨67, _⟩ => ⟨S2x4x16512x16512, .f32⟩
  | .hbm, ⟨68, _⟩ => ⟨S2x4x16512x16512, .f32⟩
  | .hbm, ⟨69, _⟩ => ⟨S2x4x16512x16512, .f32⟩
  | .hbm, ⟨70, _⟩ => ⟨S_, .f32⟩
  | .hbm, ⟨71, _⟩ => ⟨S_, .f32⟩
  | .hbm, ⟨72, _⟩ => ⟨S2x4x16512x16512, .i1⟩
  | .hbm, ⟨73, _⟩ => ⟨S2x4x16512x16512, .f32⟩
  | .hbm, ⟨74, _⟩ => ⟨S2x4x16512x16512, .f32⟩
  | .hbm, ⟨75, _⟩ => ⟨S2x4x16512x64, .f32⟩
  | .hbm, ⟨76, _⟩ => ⟨S2x16512x4x64, .f32⟩
  | .hbm, ⟨77, _⟩ => ⟨S2x16512x4x64, .f32⟩
  | .hbm, ⟨78, _⟩ => ⟨S_, .f32⟩
  | .hbm, ⟨79, _⟩ => ⟨S2x16512x4, .f32⟩
  | .hbm, ⟨80, _⟩ => ⟨S2x16512x4x1, .f32⟩
  | .hbm, ⟨81, _⟩ => ⟨S_, .f32⟩
  | .hbm, ⟨82, _⟩ => ⟨S2x16512x4x1, .f32⟩
  | .hbm, ⟨83, _⟩ => ⟨S2x16512x4x1, .f32⟩
  | .hbm, ⟨84, _⟩ => ⟨S_, .f32⟩
  | .hbm, ⟨85, _⟩ => ⟨S2x16512x4x1, .f32⟩
  | .hbm, ⟨86, _⟩ => ⟨S2x16512x4x1, .f32⟩
  | .hbm, ⟨87, _⟩ => ⟨S2x16512x4x1, .f32⟩
  | .hbm, ⟨88, _⟩ => ⟨S2x16512x4x64, .f32⟩
  | .hbm, ⟨89, _⟩ => ⟨S2x16512x4x64, .f32⟩
  | .hbm, ⟨90, _⟩ => ⟨S1x64, .f32⟩
  | .hbm, ⟨91, _⟩ => ⟨S64, .f32⟩
  | .hbm, ⟨92, _⟩ => ⟨S1x1x1x64, .f32⟩
  | .hbm, ⟨93, _⟩ => ⟨S2x16512x4x64, .f32⟩
  | .hbm, ⟨94, _⟩ => ⟨S2x16512x4x64, .f32⟩
  | .hbm, ⟨95, _⟩ => ⟨S2x16512x256, .f32⟩
  | .hbm, ⟨96, _⟩ => ⟨S2x16512x256, .bf16⟩
  | _, _ => ⟨S2x16512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v22 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_call2_cst : Ref sig .tc := ⟨.hbm, 48, rfl⟩
abbrev main_call2_v0 : Ref sig .tc := ⟨.hbm, 49, rfl⟩
abbrev main_v24 : Ref sig .tc := ⟨.hbm, 50, rfl⟩
abbrev main_v25 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_0 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_1 : Ref sig .tc := ⟨.hbm, 78, rfl⟩
abbrev main_v33 : Ref sig .tc := ⟨.hbm, 79, rfl⟩
abbrev main_v34 : Ref sig .tc := ⟨.hbm, 80, rfl⟩
abbrev main_cst_2 : Ref sig .tc := ⟨.hbm, 81, rfl⟩
abbrev main_v35 : Ref sig .tc := ⟨.hbm, 82, rfl⟩
abbrev main_v36 : Ref sig .tc := ⟨.hbm, 83, rfl⟩
abbrev main_cst_3 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩

abbrev nD : Nat := 1
abbrev τ : Topo := Topo.v7x

variable {F : FTy → Type} [FloatOps F]
-- ==== Kernel2.lean ====
abbrev S2x16384x1024 : Shape := ⟨3, ![2, 16384, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x2312 : Shape := ⟨3, ![2, 1024, 2312]⟩
abbrev S1x16x1024 : Shape := ⟨3, ![1, 16, 1024]⟩
abbrev S2x16x1024 : Shape := ⟨3, ![2, 16, 1024]⟩
abbrev S_ : Shape := ⟨0, ![]⟩
abbrev S2x112x1024 : Shape := ⟨3, ![2, 112, 1024]⟩
abbrev S2x16512x1024 : Shape := ⟨3, ![2, 16512, 1024]⟩
abbrev S33024x1024 : Shape := ⟨2, ![33024, 1024]⟩
abbrev S2x1x1024 : Shape := ⟨3, ![2, 1, 1024]⟩
abbrev S2x1024x120 : Shape := ⟨3, ![2, 1024, 120]⟩
abbrev S2x1024x1800 : Shape := ⟨3, ![2, 1024, 1800]⟩
abbrev S2x1024x512 : Shape := ⟨3, ![2, 1024, 512]⟩
abbrev S2x1024x2432 : Shape := ⟨3, ![2, 1024, 2432]⟩
abbrev S33024x256 : Shape := ⟨2, ![33024, 256]⟩
abbrev S33024x768 : Shape := ⟨2, ![33024, 768]⟩
abbrev S33024x128 : Shape := ⟨2, ![33024, 128]⟩
abbrev S33024x512 : Shape := ⟨2, ![33024, 512]⟩
abbrev S768x1024 : Shape := ⟨2, ![768, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024x2432 : Shape := ⟨3, ![1, 1024, 2432]⟩
abbrev S768x256 : Shape := ⟨2, ![768, 256]⟩
abbrev S768x768 : Shape := ⟨2, ![768, 768]⟩
abbrev S768x128 : Shape := ⟨2, ![768, 128]⟩
abbrev S768x512 : Shape := ⟨2, ![768, 512]⟩
abbrev S768 : Shape := ⟨1, ![768]⟩
abbrev S768x1 : Shape := ⟨2, ![768, 1]⟩
abbrev S1x1024 : Shape := ⟨2, ![1, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x768 : Shape := ⟨3, ![1, 1024, 768]⟩
abbrev S1024x768 : Shape := ⟨2, ![1024, 768]⟩
abbrev S1x1024x128 : Shape := ⟨3, ![1, 1024, 128]⟩
abbrev S1024x128 : Shape := ⟨2, ![1024, 128]⟩
abbrev S1x1024x512 : Shape := ⟨3, ![1, 1024, 512]⟩
abbrev S1024x512 : Shape := ⟨2, ![1024, 512]⟩

abbrev nBuf : Space → Nat
  | .hbm => 33
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024, .f32⟩
  | .hbm, ⟨7, _⟩ => ⟨S2x1024x2312, .f32⟩
  | .hbm, ⟨8, _⟩ => ⟨S1x16x1024, .f32⟩
  | .hbm, ⟨9, _⟩ => ⟨S2x16x1024, .f32⟩
  | .hbm, ⟨10, _⟩ => ⟨S_, .f32⟩
  | .hbm, ⟨11, _⟩ => ⟨S2x112x1024, .f32⟩
  | .hbm, ⟨12, _⟩ => ⟨S2x16512x1024, .f32⟩
  | .hbm, ⟨13, _⟩ => ⟨S33024x1024, .f32⟩
  | .hbm, ⟨14, _⟩ => ⟨S2x1x1024, .f32⟩
  | .hbm, ⟨15, _⟩ => ⟨S2x1024x2816, .bf16⟩
  | .hbm, ⟨16, _⟩ => ⟨S2x1024x2816, .bf16⟩
  | .hbm, ⟨17, _⟩ => ⟨S2x2816x1024, .bf16⟩
  | .hbm, ⟨18, _⟩ => ⟨S2x1x1024, .f32⟩
  | .hbm, ⟨19, _⟩ => ⟨S_, .f32⟩
  | .hbm, ⟨20, _⟩ => ⟨S2x1024x120, .f32⟩
  | .hbm, ⟨21, _⟩ => ⟨S2x1024x1800, .f32⟩
  | .hbm, ⟨22, _⟩ => ⟨S2x1024x512, .f32⟩
  | .hbm, ⟨23, _⟩ => ⟨S2x1024x2432, .f32⟩
  | .hbm, ⟨24, _⟩ => ⟨S2x1024x2432, .bf16⟩
  | .hbm, ⟨25, _⟩ => ⟨S33024x1024, .f32⟩
  | .hbm, ⟨26, _⟩ => ⟨S33024x256, .bf16⟩
  | .hbm, ⟨27, _⟩ => ⟨S33024x256, .bf16⟩
  | .hbm, ⟨28, _⟩ => ⟨S33024x256, .bf16⟩
  | .hbm, ⟨29, _⟩ => ⟨S33024x768, .f32⟩
  | .hbm, ⟨30, _⟩ => ⟨S33024x256, .f32⟩
  | .hbm, ⟨31, _⟩ => ⟨S33024x128, .f32⟩
  | .hbm, ⟨32, _⟩ => ⟨S33024x512, .f32⟩
  | .local _ .vmem, ⟨0, _⟩ => ⟨S768x1024, .f32⟩
  | .local _ .vmem, ⟨1, _⟩ => ⟨S768x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S1x1024x2432, .bf16⟩
  | .local _ .vmem, ⟨8, _⟩ => ⟨S768x1024, .f32⟩
  | .local _ .vmem, ⟨9, _⟩ => ⟨S768x1024, .f32⟩
  | .local _ .vmem, ⟨10, _⟩ => ⟨S768x256, .bf16⟩
  | .local _ .vmem, ⟨11, _⟩ => ⟨S768x256, .bf16⟩
  | .local _ .vmem, ⟨12, _⟩ => ⟨S768x256, .bf16⟩
  | .local _ .vmem, ⟨13, _⟩ => ⟨S768x256, .bf16⟩
  | .local _ .vmem, ⟨14, _⟩ => ⟨S768x256, .bf16⟩
  | .local _ .vmem, ⟨15, _⟩ => ⟨S768x256, .bf16⟩
  | .local _ .vmem, ⟨16, _⟩ => ⟨S768x768, .f32⟩
  | .local _ .vmem, ⟨17, _⟩ => ⟨S768x768, .f32⟩
  | .local _ .vmem, ⟨18, _⟩ => ⟨S768x256, .f32⟩
  | .local _ .vmem, ⟨19, _⟩ => ⟨S768x256, .f32⟩
  | .local _ .vmem, ⟨20, _⟩ => ⟨S768x128, .f32⟩
  | .local _ .vmem, ⟨21, _⟩ => ⟨S768x128, .f32⟩
  | .local _ .vmem, ⟨22, _⟩ => ⟨S768x512, .f32⟩
  | .local _ .vmem, ⟨23, _⟩ => ⟨S768x512, .f32⟩
  | .local _ .vmem, ⟨24, _⟩ => ⟨S768x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![43], ![false]⟩

def k0_mult1 : BitVec 32 :=
  let c0_i32 : BitVec 32 := 0#32
  c0_i32
def k0_mult2 : BitVec 32 :=
  let c1_i32 : BitVec 32 := 1#32
  let c256_i32 : BitVec 32 := 256#32
  let v38 : BitVec 32 := Scalar.muli c1_i32 c256_i32
  v38
def k0_off1 (c1_i32 : BitVec 32) : Fin 3 → Nat :=
  let c0_19 : Index := 0#32
  let c0_20 : Index := 0#32
  let c256_i32 : BitVec 32 := 256#32
  let v38 : BitVec 32 := Scalar.muli c1_i32 c256_i32
  let v39 : BitVec 32 := v38
  let v40 : Index := Scalar.indexCast v39
  ![0, 0, v40.toNat]
def k0_off2 (c1_i32 : BitVec 32) : Fin 3 → Nat :=
  let c0_25 : Index := 0#32
  let c256_i32 : BitVec 32 := 256#32
  let v38 : BitVec 32 := Scalar.muli c1_i32 c256_i32
  let v39 : BitVec 32 := v38
  let v52 : Index := Scalar.indexCast v39
  let c0_26 : Index := 0#32
  ![0, v52.toNat, 0]
def k0_mult3 : BitVec 32 :=
  let c2_i32 : BitVec 32 := 2#32
  let c256_i32_32 : BitVec 32 := 256#32
  let v61 : BitVec 32 := Scalar.muli c2_i32 c256_i32_32
  v61
def k0_mult4 : BitVec 32 :=
  let c3_i32 : BitVec 32 := 3#32
  let c256_i32_46 : BitVec 32 := 256#32
  let v84 : BitVec 32 := Scalar.muli c3_i32 c256_i32_46
  v84
def k0_mult5 : BitVec 32 :=
  let c4_i32 : BitVec 32 := 4#32
  let c256_i32_60 : BitVec 32 := 256#32
  let v107 : BitVec 32 := Scalar.muli c4_i32 c256_i32_60
  v107
def k0_mult6 : BitVec 32 :=
  let c5_i32 : BitVec 32 := 5#32
  let c256_i32_74 : BitVec 32 := 256#32
  let v130 : BitVec 32 := Scalar.muli c5_i32 c256_i32_74
  v130
def k0_mult7 : BitVec 32 :=
  let c6_i32 : BitVec 32 := 6#32
  let c256_i32_88 : BitVec 32 := 256#32
  let v153 : BitVec 32 := Scalar.muli c6_i32 c256_i32_88
  v153
def k0_mult8 : BitVec 32 :=
  let c7_i32 : BitVec 32 := 7#32
  let c256_i32_102 : BitVec 32 := 256#32
  let v176 : BitVec 32 := Scalar.muli c7_i32 c256_i32_102
  v176
def k0_mult9 : BitVec 32 :=
  let c8_i32 : BitVec 32 := 8#32
  let c256_i32_116 : BitVec 32 := 256#32
  let v199 : BitVec 32 := Scalar.muli c8_i32 c256_i32_116
  v199
def k0_mult10 : BitVec 32 :=
  let c9_i32 : BitVec 32 := 9#32
  let c256_i32_130 : BitVec 32 := 256#32
  let v222 : BitVec 32 := Scalar.muli c9_i32 c256_i32_130
  v222
def k0_mult11 : BitVec 32 :=
  let c10_i32 : BitVec 32 := 10#32
  let c256_i32_144 : BitVec 32 := 256#32
  let v245 : BitVec 32 := Scalar.muli c10_i32 c256_i32_144
  v245
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S768x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x16384x1024 : Shape := ⟨3, ![2, 16384, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x2312 : Shape := ⟨3, ![2, 1024, 2312]⟩
abbrev S1x16x1024 : Shape := ⟨3, ![1, 16, 1024]⟩
abbrev S2x16x1024 : Shape := ⟨3, ![2, 16, 1024]⟩
abbrev S_ : Shape := ⟨0, ![]⟩
abbrev S2x112x1024 : Shape := ⟨3, ![2, 112, 1024]⟩
abbrev S2x16512x1024 : Shape := ⟨3, ![2, 16512, 1024]⟩
abbrev S33024x1024 : Shape := ⟨2, ![33024, 1024]⟩
abbrev S1x1024 : Shape := ⟨2, ![1, 1024]⟩
abbrev S1024 : Shape := ⟨1, ![1024]⟩
abbrev S33024 : Shape := ⟨1, ![33024]⟩
abbrev S33024x1 : Shape := ⟨2, ![33024, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33024x2816 : Shape := ⟨2, ![33024, 2816]⟩
abbrev S1x1024x2312 : Shape := ⟨3, ![1, 1024, 2312]⟩
abbrev S1024x2312 : Shape := ⟨2, ![1024, 2312]⟩
abbrev S33024x2312 : Shape := ⟨2, ![33024, 2312]⟩
abbrev S33024x256 : Shape := ⟨2, ![33024, 256]⟩
abbrev S33024x768 : Shape := ⟨2, ![33024, 768]⟩
abbrev S33024x4 : Shape := ⟨2, ![33024, 4]⟩
abbrev S33024x512 : Shape := ⟨2, ![33024, 512]⟩
abbrev S33024x120 : Shape := ⟨2, ![33024, 120]⟩
abbrev S33024x128 : Shape := ⟨2, ![33024, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024, .f32⟩
  | .hbm, ⟨7, _⟩ => ⟨S2x1024x2312, .f32⟩
  | .hbm, ⟨8, _⟩ => ⟨S1x16x1024, .f32⟩
  | .hbm, ⟨9, _⟩ => ⟨S2x16x1024, .f32⟩
  | .hbm, ⟨10, _⟩ => ⟨S_, .f32⟩
  | .hbm, ⟨11, _⟩ => ⟨S2x112x1024, .f32⟩
  | .hbm, ⟨12, _⟩ => ⟨S2x16512x1024, .f32⟩
  | .hbm, ⟨13, _⟩ => ⟨S33024x1024, .f32⟩
  | .hbm, ⟨14, _⟩ => ⟨S1x1024, .f32⟩
  | .hbm, ⟨15, _⟩ => ⟨S1024, .f32⟩
  | .hbm, ⟨16, _⟩ => ⟨S33024x1024, .f32⟩
  | .hbm, ⟨17, _⟩ => ⟨S_, .f32⟩
  | .hbm, ⟨18, _⟩ => ⟨S33024, .f32⟩
  | .hbm, ⟨19, _⟩ => ⟨S33024x1, .f32⟩
  | .hbm, ⟨20, _⟩ => ⟨S_, .f32⟩
  | .hbm, ⟨21, _⟩ => ⟨S33024x1, .f32⟩
  | .hbm, ⟨22, _⟩ => ⟨S33024x1, .f32⟩
  | .hbm, ⟨23, _⟩ => ⟨S_, .f32⟩
  | .hbm, ⟨24, _⟩ => ⟨S33024x1, .f32⟩
  | .hbm, ⟨25, _⟩ => ⟨S33024x1, .f32⟩
  | .hbm, ⟨26, _⟩ => ⟨S33024x1, .f32⟩
  | .hbm, ⟨27, _⟩ => ⟨S33024x1024, .f32⟩
  | .hbm, ⟨28, _⟩ => ⟨S33024x1024, .f32⟩
  | .hbm, ⟨29, _⟩ => ⟨S1x1024, .f32⟩
  | .hbm, ⟨30, _⟩ => ⟨S33024x1024, .f32⟩
  | .hbm, ⟨31, _⟩ => ⟨S33024x1024, .f32⟩
  | .hbm, ⟨32, _⟩ => ⟨S1x1024x2816, .f32⟩
  | .hbm, ⟨33, _⟩ => ⟨S1024x2816, .f32⟩
  | .hbm, ⟨34, _⟩ => ⟨S1x1024x2816, .f32⟩
  | .hbm, ⟨35, _⟩ => ⟨S1024x2816, .f32⟩
  | .hbm, ⟨36, _⟩ => ⟨S1x2816x1024, .f32⟩
  | .hbm, ⟨37, _⟩ => ⟨S2816x1024, .f32⟩
  | .hbm, ⟨38, _⟩ => ⟨S33024x2816, .f32⟩
  | .hbm, ⟨39, _⟩ => ⟨S33024x2816, .f32⟩
  | .hbm, ⟨40, _⟩ => ⟨S33024x2816, .f32⟩
  | .hbm, ⟨41, _⟩ => ⟨S_, .f32⟩
  | .hbm, ⟨42, _⟩ => ⟨S33024x2816, .f32⟩
  | .hbm, ⟨43, _⟩ => ⟨S33024x2816, .f32⟩
  | .hbm, ⟨44, _⟩ => ⟨S_, .f32⟩
  | .hbm, ⟨45, _⟩ => ⟨S33024x2816, .f32⟩
  | .hbm, ⟨46, _⟩ => ⟨S33024x2816, .f32⟩
  | .hbm, ⟨47, _⟩ => ⟨S33024x2816, .f32⟩
  | .hbm, ⟨48, _⟩ => ⟨S33024x2816, .f32⟩
  | .hbm, ⟨49, _⟩ => ⟨S33024x2816, .f32⟩
  | .hbm, ⟨50, _⟩ => ⟨S33024x1024, .f32⟩
  | .hbm, ⟨51, _⟩ => ⟨S_, .f32⟩
  | .hbm, ⟨52, _⟩ => ⟨S33024x1024, .f32⟩
  | .hbm, ⟨53, _⟩ => ⟨S33024x1024, .f32⟩
  | .hbm, ⟨54, _⟩ => ⟨S33024x1024, .f32⟩
  | .hbm, ⟨55, _⟩ => ⟨S1x1024, .f32⟩
  | .hbm, ⟨56, _⟩ => ⟨S1024, .f32⟩
  | .hbm, ⟨57, _⟩ => ⟨S33024x1024, .f32⟩
  | .hbm, ⟨58, _⟩ => ⟨S_, .f32⟩
  | .hbm, ⟨59, _⟩ => ⟨S33024, .f32⟩
  | .hbm, ⟨60, _⟩ => ⟨S33024x1, .f32⟩
  | .hbm, ⟨61, _⟩ => ⟨S_, .f32⟩
  | .hbm, ⟨62, _⟩ => ⟨S33024x1, .f32⟩
  | .hbm, ⟨63, _⟩ => ⟨S33024x1, .f32⟩
  | .hbm, ⟨64, _⟩ => ⟨S_, .f32⟩
  | .hbm, ⟨65, _⟩ => ⟨S33024x1, .f32⟩
  | .hbm, ⟨66, _⟩ => ⟨S33024x1, .f32⟩
  | .hbm, ⟨67, _⟩ => ⟨S33024x1, .f32⟩
  | .hbm, ⟨68, _⟩ => ⟨S33024x1024, .f32⟩
  | .hbm, ⟨69, _⟩ => ⟨S33024x1024, .f32⟩
  | .hbm, ⟨70, _⟩ => ⟨S1x1024, .f32⟩
  | .hbm, ⟨71, _⟩ => ⟨S33024x1024, .f32⟩
  | .hbm, ⟨72, _⟩ => ⟨S33024x1024, .f32⟩
  | .hbm, ⟨73, _⟩ => ⟨S1x1024x2312, .f32⟩
  | .hbm, ⟨74, _⟩ => ⟨S1024x2312, .f32⟩
  | .hbm, ⟨75, _⟩ => ⟨S33024x2312, .f32⟩
  | .hbm, ⟨76, _⟩ => ⟨S33024x256, .f32⟩
  | .hbm, ⟨77, _⟩ => ⟨S33024x256, .f32⟩
  | .hbm, ⟨78, _⟩ => ⟨S33024x256, .f32⟩
  | .hbm, ⟨79, _⟩ => ⟨S33024x768, .f32⟩
  | .hbm, ⟨80, _⟩ => ⟨S33024x256, .f32⟩
  | .hbm, ⟨81, _⟩ => ⟨S33024x4, .f32⟩
  | .hbm, ⟨82, _⟩ => ⟨S33024x4, .f32⟩
  | .hbm, ⟨83, _⟩ => ⟨S33024x512, .f32⟩
  | .hbm, ⟨84, _⟩ => ⟨S_, .f32⟩
  | .hbm, ⟨85, _⟩ => ⟨S33024x120, .f32⟩
  | .hbm, ⟨86, _⟩ => ⟨S33024x128, .f32⟩
  | .hbm, ⟨87, _⟩ => ⟨S_, .f32⟩
  | .hbm, ⟨88, _⟩ => ⟨S33024x256, .f32⟩
  | .hbm, ⟨89, _⟩ => ⟨S33024x256, .f32⟩
  | .hbm, ⟨90, _⟩ => ⟨S33024x256, .bf16⟩
  | .hbm, ⟨91, _⟩ => ⟨S33024x256, .bf16⟩
  | .hbm, ⟨92, _⟩ => ⟨S33024x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel3.lean ====
abbrev S33024x1024 : Shape := ⟨2, ![33024, 1024]⟩
abbrev S33024x256 : Shape := ⟨2, ![33024, 256]⟩
abbrev S33024x512 : Shape := ⟨2, ![33024, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x512 : Shape := ⟨3, ![2, 1, 512]⟩
abbrev S2x1x1024 : Shape := ⟨3, ![2, 1, 1024]⟩
abbrev S1x1024 : Shape := ⟨2, ![1, 1024]⟩
abbrev S32768x1024 : Shape := ⟨2, ![32768, 1024]⟩
abbrev S1024x1024 : Shape := ⟨2, ![1024, 1024]⟩
abbrev S1024x256 : Shape := ⟨2, ![1024, 256]⟩
abbrev S1024x512 : Shape := ⟨2, ![1024, 512]⟩
abbrev S1x512x512 : Shape := ⟨3, ![1, 512, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x512 : Shape := ⟨2, ![512, 512]⟩
abbrev S1x512 : Shape := ⟨2, ![1, 512]⟩
abbrev S1024x1 : Shape := ⟨2, ![1024, 1]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x256 : Shape := ⟨3, ![1, 1024, 256]⟩
abbrev S2x16384x1024 : Shape := ⟨3, ![2, 16384, 1024]⟩

abbrev nBuf : Space → Nat
  | .hbm => 24
  | .vmem => 20
  | .smem => 0
  | _ => 0

abbrev bufTy : (tb : Table) → Fin (tcTables nBuf tb) → BufTy
  | .hbm, ⟨0, _⟩ => ⟨S33024x1024, .f32⟩
  | .hbm, ⟨1, _⟩ => ⟨S33024x256, .bf16⟩
  | .hbm, ⟨2, _⟩ => ⟨S33024x256, .bf16⟩
  | .hbm, ⟨3, _⟩ => ⟨S33024x512, .f32⟩
  | .hbm, ⟨4, _⟩ => ⟨S2x512x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S1024, .f32⟩
  | .hbm, ⟨13, _⟩ => ⟨S2x512x512, .bf16⟩
  | .hbm, ⟨14, _⟩ => ⟨S2x1x512, .f32⟩
  | .hbm, ⟨15, _⟩ => ⟨S2x1x512, .f32⟩
  | .hbm, ⟨16, _⟩ => ⟨S2x1024x1024, .bf16⟩
  | .hbm, ⟨17, _⟩ => ⟨S2x1x1024, .f32⟩
  | .hbm, ⟨18, _⟩ => ⟨S2x1024x2816, .bf16⟩
  | .hbm, ⟨19, _⟩ => ⟨S2x1024x2816, .bf16⟩
  | .hbm, ⟨20, _⟩ => ⟨S2x2816x1024, .bf16⟩
  | .hbm, ⟨21, _⟩ => ⟨S1x1024, .f32⟩
  | .hbm, ⟨22, _⟩ => ⟨S32768x1024, .f32⟩
  | .hbm, ⟨23, _⟩ => ⟨S2x16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .f32⟩
  | .local _ .vmem, ⟨7, _⟩ => ⟨S1024x512, .f32⟩
  | .local _ .vmem, ⟨8, _⟩ => ⟨S1x512x512, .bf16⟩
  | .local _ .vmem, ⟨9, _⟩ => ⟨S1x1x512, .f32⟩
  | .local _ .vmem, ⟨10, _⟩ => ⟨S1x1x512, .f32⟩
  | .local _ .vmem, ⟨11, _⟩ => ⟨S1x1024x1024, .bf16⟩
  | .local _ .vmem, ⟨12, _⟩ => ⟨S1x1x1024, .f32⟩
  | .local _ .vmem, ⟨13, _⟩ => ⟨S1x1024x2816, .bf16⟩
  | .local _ .vmem, ⟨14, _⟩ => ⟨S1x1024x2816, .bf16⟩
  | .local _ .vmem, ⟨15, _⟩ => ⟨S1x2816x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
def k0_mult2 : BitVec 32 :=
  let c1_i32 : BitVec 32 := 1#32
  let c256_i32 : BitVec 32 := 256#32
  let v77 : BitVec 32 := Scalar.muli c1_i32 c256_i32
  v77
def k0_off1 (c1_i32 : BitVec 32) : Fin 3 → Nat :=
  let c0_48 : Index := 0#32
  let c0_49 : Index := 0#32
  let c256_i32 : BitVec 32 := 256#32
  let v77 : BitVec 32 := Scalar.muli c1_i32 c256_i32
  let v78 : BitVec 32 := v77
  let v79 : Index := Scalar.indexCast v78
  ![0, 0, v79.toNat]
def k0_off2 (c1_i32 : BitVec 32) : Fin 3 → Nat :=
  let c0_54 : Index := 0#32
  let c256_i32 : BitVec 32 := 256#32
  let v77 : BitVec 32 := Scalar.muli c1_i32 c256_i32
  let v78 : BitVec 32 := v77
  let v91 : Index := Scalar.indexCast v78
  let c0_55 : Index := 0#32
  ![0, v91.toNat, 0]
def k0_mult3 : BitVec 32 :=
  let c2_i32 : BitVec 32 := 2#32
  let c256_i32_61 : BitVec 32 := 256#32
  let v100 : BitVec 32 := Scalar.muli c2_i32 c256_i32_61
  v100
def k0_mult4 : BitVec 32 :=
  let c3_i32 : BitVec 32 := 3#32
  let c256_i32_75 : BitVec 32 := 256#32
  let v123 : BitVec 32 := Scalar.muli c3_i32 c256_i32_75
  v123
def k0_mult5 : BitVec 32 :=
  let c4_i32 : BitVec 32 := 4#32
  let c256_i32_89 : BitVec 32 := 256#32
  let v146 : BitVec 32 := Scalar.muli c4_i32 c256_i32_89
  v146
def k0_mult6 : BitVec 32 :=
  let c5_i32 : BitVec 32 := 5#32
  let c256_i32_103 : BitVec 32 := 256#32
  let v169 : BitVec 32 := Scalar.muli c5_i32 c256_i32_103
  v169
def k0_mult7 : BitVec 32 :=
  let c6_i32 : BitVec 32 := 6#32
  let c256_i32_117 : BitVec 32 := 256#32
  let v192 : BitVec 32 := Scalar.muli c6_i32 c256_i32_117
  v192
def k0_mult8 : BitVec 32 :=
  let c7_i32 : BitVec 32 := 7#32
  let c256_i32_131 : BitVec 32 := 256#32
  let v215 : BitVec 32 := Scalar.muli c7_i32 c256_i32_131
  v215
def k0_mult9 : BitVec 32 :=
  let c8_i32 : BitVec 32 := 8#32
  let c256_i32_145 : BitVec 32 := 256#32
  let v238 : BitVec 32 := Scalar.muli c8_i32 c256_i32_145
  v238
def k0_mult10 : BitVec 32 :=
  let c9_i32 : BitVec 32 := 9#32
  let c256_i32_159 : BitVec 32 := 256#32
  let v261 : BitVec 32 := Scalar.muli c9_i32 c256_i32_159
  v261
def k0_mult11 : BitVec 32 :=
  let c10_i32 : BitVec 32 := 10#32
  let c256_i32_173 : BitVec 32 := 256#32
  let v284 : BitVec 32 := Scalar.muli c10_i32 c256_i32_173
  v284
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c128_i32 : BitVec 32 := 128#32
  let v2 : BitVec 32 := Scalar.muli arg1 c128_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c128_i32 : BitVec 32 := 128#32
  let v2 : BitVec 32 := Scalar.muli arg1 c128_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c128_i32 : BitVec 32 := 128#32
  let v2 : BitVec 32 := Scalar.muli arg1 c128_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c128_i32 : BitVec 32 := 128#32
  let v2 : BitVec 32 := Scalar.muli arg1 c128_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S33024x1024 : Shape := ⟨2, ![33024, 1024]⟩
abbrev S33024x256 : Shape := ⟨2, ![33024, 256]⟩
abbrev S33024x512 : Shape := ⟨2, ![33024, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S_ : Shape := ⟨0, ![]⟩
abbrev S33024 : Shape := ⟨1, ![33024]⟩
abbrev S33024x1 : Shape := ⟨2, ![33024, 1]⟩
abbrev S1x1024x1024 : Shape := ⟨3, ![1, 1024, 1024]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33024x2816 : Shape := ⟨2, ![33024, 2816]⟩
abbrev S2x16512x1024 : Shape := ⟨3, ![2, 16512, 1024]⟩
abbrev S2x16384x1024 : Shape := ⟨3, ![2, 16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S33024x256, .bf16⟩
  | .hbm, ⟨2, _⟩ => ⟨S33024x256, .bf16⟩
  | .hbm, ⟨3, _⟩ => ⟨S33024x512, .f32⟩
  | .hbm, ⟨4, _⟩ => ⟨S2x512x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S1024, .f32⟩
  | .hbm, ⟨13, _⟩ => ⟨S1x512x512, .f32⟩
  | .hbm, ⟨14, _⟩ => ⟨S512x512, .f32⟩
  | .hbm, ⟨15, _⟩ => ⟨S33024x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S33024x512, .f32⟩
  | .hbm, ⟨20, _⟩ => ⟨S33024x512, .f32⟩
  | .hbm, ⟨21, _⟩ => ⟨S33024x512, .f32⟩
  | .hbm, ⟨22, _⟩ => ⟨S33024x512, .f32⟩
  | .hbm, ⟨23, _⟩ => ⟨S_, .f32⟩
  | .hbm, ⟨24, _⟩ => ⟨S33024x512, .f32⟩
  | .hbm, ⟨25, _⟩ => ⟨S33024x512, .f32⟩
  | .hbm, ⟨26, _⟩ => ⟨S_, .f32⟩
  | .hbm, ⟨27, _⟩ => ⟨S33024x512, .f32⟩
  | .hbm, ⟨28, _⟩ => ⟨S33024x512, .f32⟩
  | .hbm, ⟨29, _⟩ => ⟨S33024x512, .f32⟩
  | .hbm, ⟨30, _⟩ => ⟨S1x512, .f32⟩
  | .hbm, ⟨31, _⟩ => ⟨S512, .f32⟩
  | .hbm, ⟨32, _⟩ => ⟨S33024x512, .f32⟩
  | .hbm, ⟨33, _⟩ => ⟨S_, .f32⟩
  | .hbm, ⟨34, _⟩ => ⟨S33024, .f32⟩
  | .hbm, ⟨35, _⟩ => ⟨S33024x1, .f32⟩
  | .hbm, ⟨36, _⟩ => ⟨S_, .f32⟩
  | .hbm, ⟨37, _⟩ => ⟨S33024x1, .f32⟩
  | .hbm, ⟨38, _⟩ => ⟨S33024x1, .f32⟩
  | .hbm, ⟨39, _⟩ => ⟨S_, .f32⟩
  | .hbm, ⟨40, _⟩ => ⟨S33024x1, .f32⟩
  | .hbm, ⟨41, _⟩ => ⟨S33024x1, .f32⟩
  | .hbm, ⟨42, _⟩ => ⟨S33024x1, .f32⟩
  | .hbm, ⟨43, _⟩ => ⟨S33024x512, .f32⟩
  | .hbm, ⟨44, _⟩ => ⟨S33024x512, .f32⟩
  | .hbm, ⟨45, _⟩ => ⟨S1x512, .f32⟩
  | .hbm, ⟨46, _⟩ => ⟨S33024x512, .f32⟩
  | .hbm, ⟨47, _⟩ => ⟨S33024x512, .f32⟩
  | .hbm, ⟨48, _⟩ => ⟨S33024x256, .f32⟩
  | .hbm, ⟨49, _⟩ => ⟨S33024x256, .f32⟩
  | .hbm, ⟨50, _⟩ => ⟨S33024x1024, .f32⟩
  | .hbm, ⟨51, _⟩ => ⟨S1x1024x1024, .f32⟩
  | .hbm, ⟨52, _⟩ => ⟨S1024x1024, .f32⟩
  | .hbm, ⟨53, _⟩ => ⟨S33024x1024, .f32⟩
  | .hbm, ⟨54, _⟩ => ⟨S33024x1024, .f32⟩
  | .hbm, ⟨55, _⟩ => ⟨S1x1024, .f32⟩
  | .hbm, ⟨56, _⟩ => ⟨S1024, .f32⟩
  | .hbm, ⟨57, _⟩ => ⟨S33024x1024, .f32⟩
  | .hbm, ⟨58, _⟩ => ⟨S_, .f32⟩
  | .hbm, ⟨59, _⟩ => ⟨S33024, .f32⟩
  | .hbm, ⟨60, _⟩ => ⟨S33024x1, .f32⟩
  | .hbm, ⟨61, _⟩ => ⟨S_, .f32⟩
  | .hbm, ⟨62, _⟩ => ⟨S33024x1, .f32⟩
  | .hbm, ⟨63, _⟩ => ⟨S33024x1, .f32⟩
  | .hbm, ⟨64, _⟩ => ⟨S_, .f32⟩
  | .hbm, ⟨65, _⟩ => ⟨S33024x1, .f32⟩
  | .hbm, ⟨66, _⟩ => ⟨S33024x1, .f32⟩
  | .hbm, ⟨67, _⟩ => ⟨S33024x1, .f32⟩
  | .hbm, ⟨68, _⟩ => ⟨S33024x1024, .f32⟩
  | .hbm, ⟨69, _⟩ => ⟨S33024x1024, .f32⟩
  | .hbm, ⟨70, _⟩ => ⟨S1x1024, .f32⟩
  | .hbm, ⟨71, _⟩ => ⟨S33024x1024, .f32⟩
  | .hbm, ⟨72, _⟩ => ⟨S33024x1024, .f32⟩
  | .hbm, ⟨73, _⟩ => ⟨S1x1024x2816, .f32⟩
  | .hbm, ⟨74, _⟩ => ⟨S1024x2816, .f32⟩
  | .hbm, ⟨75, _⟩ => ⟨S1x1024x2816, .f32⟩
  | .hbm, ⟨76, _⟩ => ⟨S1024x2816, .f32⟩
  | .hbm, ⟨77, _⟩ => ⟨S1x2816x1024, .f32⟩
  | .hbm, ⟨78, _⟩ => ⟨S2816x1024, .f32⟩
  | .hbm, ⟨79, _⟩ => ⟨S33024x2816, .f32⟩
  | .hbm, ⟨80, _⟩ => ⟨S33024x2816, .f32⟩
  | .hbm, ⟨81, _⟩ => ⟨S33024x2816, .f32⟩
  | .hbm, ⟨82, _⟩ => ⟨S_, .f32⟩
  | .hbm, ⟨83, _⟩ => ⟨S33024x2816, .f32⟩
  | .hbm, ⟨84, _⟩ => ⟨S33024x2816, .f32⟩
  | .hbm, ⟨85, _⟩ => ⟨S_, .f32⟩
  | .hbm, ⟨86, _⟩ => ⟨S33024x2816, .f32⟩
  | .hbm, ⟨87, _⟩ => ⟨S33024x2816, .f32⟩
  | .hbm, ⟨88, _⟩ => ⟨S33024x2816, .f32⟩
  | .hbm, ⟨89, _⟩ => ⟨S33024x2816, .f32⟩
  | .hbm, ⟨90, _⟩ => ⟨S33024x2816, .f32⟩
  | .hbm, ⟨91, _⟩ => ⟨S33024x1024, .f32⟩
  | .hbm, ⟨92, _⟩ => ⟨S_, .f32⟩
  | .hbm, ⟨93, _⟩ => ⟨S33024x1024, .f32⟩
  | .hbm, ⟨94, _⟩ => ⟨S33024x1024, .f32⟩
  | .hbm, ⟨95, _⟩ => ⟨S33024x1024, .f32⟩
  | .hbm, ⟨96, _⟩ => ⟨S33024x1024, .f32⟩
  | .hbm, ⟨97, _⟩ => ⟨S_, .f32⟩
  | .hbm, ⟨98, _⟩ => ⟨S33024, .f32⟩
  | .hbm, ⟨99, _⟩ => ⟨S33024x1, .f32⟩
  | .hbm, ⟨100, _⟩ => ⟨S_, .f32⟩
  | .hbm, ⟨101, _⟩ => ⟨S33024x1, .f32⟩
  | .hbm, ⟨102, _⟩ => ⟨S33024x1, .f32⟩
  | .hbm, ⟨103, _⟩ => ⟨S_, .f32⟩
  | .hbm, ⟨104, _⟩ => ⟨S33024x1, .f32⟩
  | .hbm, ⟨105, _⟩ => ⟨S33024x1, .f32⟩
  | .hbm, ⟨106, _⟩ => ⟨S33024x1, .f32⟩
  | .hbm, ⟨107, _⟩ => ⟨S33024x1024, .f32⟩
  | .hbm, ⟨108, _⟩ => ⟨S33024x1024, .f32⟩
  | .hbm, ⟨109, _⟩ => ⟨S1x1024, .f32⟩
  | .hbm, ⟨110, _⟩ => ⟨S33024x1024, .f32⟩
  | .hbm, ⟨111, _⟩ => ⟨S33024x1024, .f32⟩
  | .hbm, ⟨112, _⟩ => ⟨S2x16512x1024, .f32⟩
  | .hbm, ⟨113, _⟩ => ⟨S2x16384x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_cst_9 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel4.lean ====
abbrev S33024x1024 : Shape := ⟨2, ![33024, 1024]⟩
abbrev S33024x256 : Shape := ⟨2, ![33024, 256]⟩
abbrev S33024x512 : Shape := ⟨2, ![33024, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x512 : Shape := ⟨3, ![2, 1, 512]⟩
abbrev S2x1x1024 : Shape := ⟨3, ![2, 1, 1024]⟩
abbrev S768x1024 : Shape := ⟨2, ![768, 1024]⟩
abbrev S768x256 : Shape := ⟨2, ![768, 256]⟩
abbrev S768x512 : Shape := ⟨2, ![768, 512]⟩
abbrev S1x512x512 : Shape := ⟨3, ![1, 512, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x512 : Shape := ⟨2, ![512, 512]⟩
abbrev S1x512 : Shape := ⟨2, ![1, 512]⟩
abbrev S768 : Shape := ⟨1, ![768]⟩
abbrev S768x1 : Shape := ⟨2, ![768, 1]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024 : Shape := ⟨2, ![1, 1024]⟩
abbrev S1x1024x256 : Shape := ⟨3, ![1, 1024, 256]⟩
abbrev S1024x256 : Shape := ⟨2, ![1024, 256]⟩

abbrev nBuf : Space → Nat
  | .hbm => 21
  | .vmem => 19
  | .smem => 0
  | _ => 0

abbrev bufTy : (tb : Table) → Fin (tcTables nBuf tb) → BufTy
  | .hbm, ⟨0, _⟩ => ⟨S33024x1024, .f32⟩
  | .hbm, ⟨1, _⟩ => ⟨S33024x256, .bf16⟩
  | .hbm, ⟨2, _⟩ => ⟨S33024x256, .bf16⟩
  | .hbm, ⟨3, _⟩ => ⟨S33024x512, .f32⟩
  | .hbm, ⟨4, _⟩ => ⟨S2x512x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S2x512x512, .bf16⟩
  | .hbm, ⟨13, _⟩ => ⟨S2x1x512, .f32⟩
  | .hbm, ⟨14, _⟩ => ⟨S2x1x512, .f32⟩
  | .hbm, ⟨15, _⟩ => ⟨S2x1024x1024, .bf16⟩
  | .hbm, ⟨16, _⟩ => ⟨S2x1x1024, .f32⟩
  | .hbm, ⟨17, _⟩ => ⟨S2x1024x2816, .bf16⟩
  | .hbm, ⟨18, _⟩ => ⟨S2x1024x2816, .bf16⟩
  | .hbm, ⟨19, _⟩ => ⟨S2x2816x1024, .bf16⟩
  | .hbm, ⟨20, _⟩ => ⟨S33024x1024, .f32⟩
  | .local _ .vmem, ⟨0, _⟩ => ⟨S768x1024, .f32⟩
  | .local _ .vmem, ⟨1, _⟩ => ⟨S768x1024, .f32⟩
  | .local _ .vmem, ⟨2, _⟩ => ⟨S768x256, .bf16⟩
  | .local _ .vmem, ⟨3, _⟩ => ⟨S768x256, .bf16⟩
  | .local _ .vmem, ⟨4, _⟩ => ⟨S768x256, .bf16⟩
  | .local _ .vmem, ⟨5, _⟩ => ⟨S768x256, .bf16⟩
  | .local _ .vmem, ⟨6, _⟩ => ⟨S768x512, .f32⟩
  | .local _ .vmem, ⟨7, _⟩ => ⟨S768x512, .f32⟩
  | .local _ .vmem, ⟨8, _⟩ => ⟨S1x512x512, .bf16⟩
  | .local _ .vmem, ⟨9, _⟩ => ⟨S1x1x512, .f32⟩
  | .local _ .vmem, ⟨10, _⟩ => ⟨S1x1x512, .f32⟩
  | .local _ .vmem, ⟨11, _⟩ => ⟨S1x1024x1024, .bf16⟩
  | .local _ .vmem, ⟨12, _⟩ => ⟨S1x1x1024, .f32⟩
  | .local _ .vmem, ⟨13, _⟩ => ⟨S1x1024x2816, .bf16⟩
  | .local _ .vmem, ⟨14, _⟩ => ⟨S1x1024x2816, .bf16⟩
  | .local _ .vmem, ⟨15, _⟩ => ⟨S1x2816x1024, .bf16⟩
  | .local _ .vmem, ⟨16, _⟩ => ⟨S768x1024, .f32⟩
  | .local _ .vmem, ⟨17, _⟩ => ⟨S768x1024, .f32⟩
  | .local _ .vmem, ⟨18, _⟩ => ⟨S768x1024, .f32⟩
  | _, _ => ⟨S33024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![43], ![false]⟩

def k0_mult1 : BitVec 32 :=
  let c0_i32 : BitVec 32 := 0#32
  c0_i32
def k0_mult2 : BitVec 32 :=
  let c1_i32 : BitVec 32 := 1#32
  let c256_i32 : BitVec 32 := 256#32
  let v77 : BitVec 32 := Scalar.muli c1_i32 c256_i32
  v77
def k0_off1 (c1_i32 : BitVec 32) : Fin 3 → Nat :=
  let c0_48 : Index := 0#32
  let c0_49 : Index := 0#32
  let c256_i32 : BitVec 32 := 256#32
  let v77 : BitVec 32 := Scalar.muli c1_i32 c256_i32
  let v78 : BitVec 32 := v77
  let v79 : Index := Scalar.indexCast v78
  ![0, 0, v79.toNat]
def k0_off2 (c1_i32 : BitVec 32) : Fin 3 → Nat :=
  let c0_54 : Index := 0#32
  let c256_i32 : BitVec 32 := 256#32
  let v77 : BitVec 32 := Scalar.muli c1_i32 c256_i32
  let v78 : BitVec 32 := v77
  let v91 : Index := Scalar.indexCast v78
  let c0_55 : Index := 0#32
  ![0, v91.toNat, 0]
def k0_mult3 : BitVec 32 :=
  let c2_i32 : BitVec 32 := 2#32
  let c256_i32_61 : BitVec 32 := 256#32
  let v100 : BitVec 32 := Scalar.muli c2_i32 c256_i32_61
  v100
def k0_mult4 : BitVec 32 :=
  let c3_i32 : BitVec 32 := 3#32
  let c256_i32_75 : BitVec 32 := 256#32
  let v123 : BitVec 32 := Scalar.muli c3_i32 c256_i32_75
  v123
def k0_mult5 : BitVec 32 :=
  let c4_i32 : BitVec 32 := 4#32
  let c256_i32_89 : BitVec 32 := 256#32
  let v146 : BitVec 32 := Scalar.muli c4_i32 c256_i32_89
  v146
def k0_mult6 : BitVec 32 :=
  let c5_i32 : BitVec 32 := 5#32
  let c256_i32_103 : BitVec 32 := 256#32
  let v169 : BitVec 32 := Scalar.muli c5_i32 c256_i32_103
  v169
def k0_mult7 : BitVec 32 :=
  let c6_i32 : BitVec 32 := 6#32
  let c256_i32_117 : BitVec 32 := 256#32
  let v192 : BitVec 32 := Scalar.muli c6_i32 c256_i32_117
  v192
def k0_mult8 : BitVec 32 :=
  let c7_i32 : BitVec 32 := 7#32
  let c256_i32_131 : BitVec 32 := 256#32
  let v215 : BitVec 32 := Scalar.muli c7_i32 c256_i32_131
  v215
def k0_mult9 : BitVec 32 :=
  let c8_i32 : BitVec 32 := 8#32
  let c256_i32_145 : BitVec 32 := 256#32
  let v238 : BitVec 32 := Scalar.muli c8_i32 c256_i32_145
  v238
def k0_mult10 : BitVec 32 :=
  let c9_i32 : BitVec 32 := 9#32
  let c256_i32_159 : BitVec 32 := 256#32
  let v261 : BitVec 32 := Scalar.muli c9_i32 c256_i32_159
  v261
def k0_mult11 : BitVec 32 :=
  let c10_i32 : BitVec 32 := 10#32
  let c256_i32_173 : BitVec 32 := 256#32
  let v284 : BitVec 32 := Scalar.muli c10_i32 c256_i32_173
  v284
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S33024x1024 : Shape := ⟨2, ![33024, 1024]⟩
abbrev S33024x256 : Shape := ⟨2, ![33024, 256]⟩
abbrev S33024x512 : Shape := ⟨2, ![33024, 512]⟩
abbrev S2x512x512 : Shape := ⟨3, ![2, 512, 512]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S_ : Shape := ⟨0, ![]⟩
abbrev S33024 : Shape := ⟨1, ![33024]⟩
abbrev S33024x1 : Shape := ⟨2, ![33024, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33024x2816 : Shape := ⟨2, ![33024, 2816]⟩

abbrev nBuf : Space → Nat
  | .hbm => 95
  | .vmem => 0
  | .smem => 0
  | _ => 0

abbrev bufTy : (tb : Table) → Fin (tcTables nBuf tb) → BufTy
  | .hbm, ⟨0, _⟩ => ⟨S33024x1024, .f32⟩
  | .hbm, ⟨1, _⟩ => ⟨S33024x256, .bf16⟩
  | .hbm, ⟨2, _⟩ => ⟨S33024x256, .bf16⟩
  | .hbm, ⟨3, _⟩ => ⟨S33024x512, .f32⟩
  | .hbm, ⟨4, _⟩ => ⟨S2x512x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S1x512x512, .f32⟩
  | .hbm, ⟨13, _⟩ => ⟨S512x512, .f32⟩
  | .hbm, ⟨14, _⟩ => ⟨S33024x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S33024x512, .f32⟩
  | .hbm, ⟨19, _⟩ => ⟨S33024x512, .f32⟩
  | .hbm, ⟨20, _⟩ => ⟨S33024x512, .f32⟩
  | .hbm, ⟨21, _⟩ => ⟨S33024x512, .f32⟩
  | .hbm, ⟨22, _⟩ => ⟨S_, .f32⟩
  | .hbm, ⟨23, _⟩ => ⟨S33024x512, .f32⟩
  | .hbm, ⟨24, _⟩ => ⟨S33024x512, .f32⟩
  | .hbm, ⟨25, _⟩ => ⟨S_, .f32⟩
  | .hbm, ⟨26, _⟩ => ⟨S33024x512, .f32⟩
  | .hbm, ⟨27, _⟩ => ⟨S33024x512, .f32⟩
  | .hbm, ⟨28, _⟩ => ⟨S33024x512, .f32⟩
  | .hbm, ⟨29, _⟩ => ⟨S1x512, .f32⟩
  | .hbm, ⟨30, _⟩ => ⟨S512, .f32⟩
  | .hbm, ⟨31, _⟩ => ⟨S33024x512, .f32⟩
  | .hbm, ⟨32, _⟩ => ⟨S_, .f32⟩
  | .hbm, ⟨33, _⟩ => ⟨S33024, .f32⟩
  | .hbm, ⟨34, _⟩ => ⟨S33024x1, .f32⟩
  | .hbm, ⟨35, _⟩ => ⟨S_, .f32⟩
  | .hbm, ⟨36, _⟩ => ⟨S33024x1, .f32⟩
  | .hbm, ⟨37, _⟩ => ⟨S33024x1, .f32⟩
  | .hbm, ⟨38, _⟩ => ⟨S_, .f32⟩
  | .hbm, ⟨39, _⟩ => ⟨S33024x1, .f32⟩
  | .hbm, ⟨40, _⟩ => ⟨S33024x1, .f32⟩
  | .hbm, ⟨41, _⟩ => ⟨S33024x1, .f32⟩
  | .hbm, ⟨42, _⟩ => ⟨S33024x512, .f32⟩
  | .hbm, ⟨43, _⟩ => ⟨S33024x512, .f32⟩
  | .hbm, ⟨44, _⟩ => ⟨S1x512, .f32⟩
  | .hbm, ⟨45, _⟩ => ⟨S33024x512, .f32⟩
  | .hbm, ⟨46, _⟩ => ⟨S33024x512, .f32⟩
  | .hbm, ⟨47, _⟩ => ⟨S33024x256, .f32⟩
  | .hbm, ⟨48, _⟩ => ⟨S33024x256, .f32⟩
  | .hbm, ⟨49, _⟩ => ⟨S33024x1024, .f32⟩
  | .hbm, ⟨50, _⟩ => ⟨S1x1024x1024, .f32⟩
  | .hbm, ⟨51, _⟩ => ⟨S1024x1024, .f32⟩
  | .hbm, ⟨52, _⟩ => ⟨S33024x1024, .f32⟩
  | .hbm, ⟨53, _⟩ => ⟨S33024x1024, .f32⟩
  | .hbm, ⟨54, _⟩ => ⟨S1x1024, .f32⟩
  | .hbm, ⟨55, _⟩ => ⟨S1024, .f32⟩
  | .hbm, ⟨56, _⟩ => ⟨S33024x1024, .f32⟩
  | .hbm, ⟨57, _⟩ => ⟨S_, .f32⟩
  | .hbm, ⟨58, _⟩ => ⟨S33024, .f32⟩
  | .hbm, ⟨59, _⟩ => ⟨S33024x1, .f32⟩
  | .hbm, ⟨60, _⟩ => ⟨S_, .f32⟩
  | .hbm, ⟨61, _⟩ => ⟨S33024x1, .f32⟩
  | .hbm, ⟨62, _⟩ => ⟨S33024x1, .f32⟩
  | .hbm, ⟨63, _⟩ => ⟨S_, .f32⟩
  | .hbm, ⟨64, _⟩ => ⟨S33024x1, .f32⟩
  | .hbm, ⟨65, _⟩ => ⟨S33024x1, .f32⟩
  | .hbm, ⟨66, _⟩ => ⟨S33024x1, .f32⟩
  | .hbm, ⟨67, _⟩ => ⟨S33024x1024, .f32⟩
  | .hbm, ⟨68, _⟩ => ⟨S33024x1024, .f32⟩
  | .hbm, ⟨69, _⟩ => ⟨S1x1024, .f32⟩
  | .hbm, ⟨70, _⟩ => ⟨S33024x1024, .f32⟩
  | .hbm, ⟨71, _⟩ => ⟨S33024x1024, .f32⟩
  | .hbm, ⟨72, _⟩ => ⟨S1x1024x2816, .f32⟩
  | .hbm, ⟨73, _⟩ => ⟨S1024x2816, .f32⟩
  | .hbm, ⟨74, _⟩ => ⟨S1x1024x2816, .f32⟩
  | .hbm, ⟨75, _⟩ => ⟨S1024x2816, .f32⟩
  | .hbm, ⟨76, _⟩ => ⟨S1x2816x1024, .f32⟩
  | .hbm, ⟨77, _⟩ => ⟨S2816x1024, .f32⟩
  | .hbm, ⟨78, _⟩ => ⟨S33024x2816, .f32⟩
  | .hbm, ⟨79, _⟩ => ⟨S33024x2816, .f32⟩
  | .hbm, ⟨80, _⟩ => ⟨S33024x2816, .f32⟩
  | .hbm, ⟨81, _⟩ => ⟨S_, .f32⟩
  | .hbm, ⟨82, _⟩ => ⟨S33024x2816, .f32⟩
  | .hbm, ⟨83, _⟩ => ⟨S33024x2816, .f32⟩
  | .hbm, ⟨84, _⟩ => ⟨S_, .f32⟩
  | .hbm, ⟨85, _⟩ => ⟨S33024x2816, .f32⟩
  | .hbm, ⟨86, _⟩ => ⟨S33024x2816, .f32⟩
  | .hbm, ⟨87, _⟩ => ⟨S33024x2816, .f32⟩
  | .hbm, ⟨88, _⟩ => ⟨S33024x2816, .f32⟩
  | .hbm, ⟨89, _⟩ => ⟨S33024x2816, .f32⟩
  | .hbm, ⟨90, _⟩ => ⟨S33024x1024, .f32⟩
  | .hbm, ⟨91, _⟩ => ⟨S_, .f32⟩
  | .hbm, ⟨92, _⟩ => ⟨S33024x1024, .f32⟩
  | .hbm, ⟨93, _⟩ => ⟨S33024x1024, .f32⟩
  | .hbm, ⟨94, _⟩ => ⟨S33024x1024, .f32⟩
  | _, _ => ⟨S33024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.KI.Step.lean ====
/-
  The stick-breaking kernel's loop as a pure function: the values its while carries (`St`), the tiles of queries, keys
  and values a trip reads (`qTile`, `tile`), what one trip makes of the carried values (`step`), and the trips run
  until the loop's test fails (`run`). The eight chains (two sequences of four heads) are one function of the chain's
  number; the printed kernel spells the same operations eight times.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.ValueIdxCore
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The values the loop carries: the window's start, the early-exit flag, each chain's running sum of log-keep
    (repeated along 128 lanes) and each chain's accumulated output. -/
structure St (F : FTy → Type) where
  w : BitVec 32
  d : BitVec 1
  c : Fin 8 → FVec F S128x128 .f32
  a : Fin 8 → FVec F S128x64 .f32

/-- What the loop reads and does not change: the grid point, each chain's queries, the suffix table, the keys and the values. -/
structure Ins (F : FTy → Type) where
  i : grid0.Coords
  q : Fin 8 → FVec F S128x64 .bf16
  sfx : FVec F S256x384 .bf16
  xk : Vec F S2x16512x256 .bf16
  xv : Vec F S2x16512x256 .bf16

/-- Chain `n`'s tile of 256 rows of an array of keys or values at the window the word `w` starts. -/
def tile (x : Vec F S2x16512x256 .bf16) (n : Fin 8) (w : BitVec 32) : Vec F S1x256x64 .bf16 := fun y =>
  x (ValueIdx.ix3 (⟨n.val / 4, by omega⟩ : Fin 2) (⟨((Scalar.maxsi w 0#32).toNat + (y 1).val) % 16512, Nat.mod_lt _ (by decide)⟩ : Fin 16512)
    (⟨n.val % 4 * 64 + (y 2).val, by have := (y 2).isLt; have : (y 2).val < 64 := this; omega⟩ : Fin 256))

/-- Chain `n`'s queries in the staged block. -/
def qTile (x : Vec F S2x128x256 .bf16) (n : Fin 8) : Vec F S1x128x64 .bf16 := fun y =>
  x (ValueIdx.ix3 (⟨n.val / 4, by omega⟩ : Fin 2) (⟨(y 1).val, (y 1).isLt⟩ : Fin 128)
    (⟨n.val % 4 * 64 + (y 2).val, by have := (y 2).isLt; have : (y 2).val < 64 := this; omega⟩ : Fin 256))

/-- The mask of a trip: which keys of the window each row attends. -/
def valid (I : Ins F) (w : BitVec 32) : IVec S128x256 1 :=
  k0_pay51 (iota .tc S128x256 32 [1] iota_S128x256_d1_w32) (k0_pay19 I.i) w

/-- Chain `n`'s scores against the window. -/
def score (I : Ins F) (w : BitVec 32) (n : Fin 8) : FVec F S128x256 .f32 := k0_pay52 (I.q n) (tile I.xk n w)

/-- Chain `n`'s sums of log-keep inside the window: strictly later keys in the first 256 columns, the whole window in the rest. -/
def sums (I : Ins F) (w : BitVec 32) (n : Fin 8) : FVec F S128x384 .f32 := k0_pay61 I.sfx (valid I w) (score I w n)

/-- Chain `n`'s part of the output from the window. -/
def part (I : Ins F) (s : St F) (n : Fin 8) : FVec F S128x64 .f32 :=
  k0_pay84 (valid I s.w) (k0_pay83 (s.c n) (score I s.w n) (k0_pay60 (score I s.w n)) (sums I s.w n)) (tile I.xv n s.w)

/-- One trip. -/
def step (I : Ins F) (s : St F) : St F where
  w := Scalar.subi s.w 256#32
  d := Scalar.cmpf .olt (k0_pay18 (s.c 0) (s.c 1) (s.c 2) (s.c 3) (s.c 4) (s.c 5) (s.c 6) (s.c 7) (sums I s.w 0) (sums I s.w 1)
    (sums I s.w 2) (sums I s.w 3) (sums I s.w 4) (sums I s.w 5) (sums I s.w 6) (sums I s.w 7)) (Named.named κ "underflow" 0xC2B00000#32)
  c n := k0_pay2 (s.c n) (sums I s.w n)
  a n := k0_pay3 (s.a n) (part I s n)

/-- The loop's test. -/
def go (s : St F) : Prop := Scalar.andi (Scalar.cmpi .sgt (Scalar.addi s.w 256#32) 0#32) (Scalar.xori s.d 1#1) = 1#1

instance (s : St F) : Decidable (go s) := by unfold go; infer_instance

/-- The loop from `s`, for at most `k` trips. -/
def run (I : Ins F) : ℕ → St F → St F
  | 0, s => s
  | k + 1, s => if go s then run I k (step I s) else s

/-- The carried values on entry: the window that ends at the block's own last row, nothing accumulated. -/
def st0 (i : grid0.Coords) : St F where
  w := Scalar.subi (Scalar.muli (Scalar.addi (BitVec.ofNat 32 (i 0).val) 1#32) 128#32) 256#32
  d := 0#1
  c _ := k0_pay29
  a _ := k0_pay37

/-- The loop's inputs at a grid point from the staged contents. -/
def ins (i : grid0.Coords) (x0 : Vec F S2x128x256 .bf16) (x1 x2 : Vec F S2x16512x256 .bf16) (x3 : Vec F S256x384 .bf16) : Ins F where
  i := i
  q n := k0_pay20 (qTile x0 n)
  sfx := k0_pay28 x3
  xk := x1
  xv := x2

/-- The label's record at the carried values `s`. -/
def rec_ (I : Ins F) (arg2 : Memref sig .tc .vmem S2x16512x256 .bf16) (harg2 : arg2.IsWhole) (arg3 : Memref sig .tc .vmem S2x16512x256 .bf16) (harg3 : arg3.IsWhole)
    (s : St F) : Cc0While1 F :=
  ⟨I.i, iota .tc S128x256 32 [1] iota_S128x256_d1_w32, k0_pay19 I.i, arg2, harg2, I.q 0, I.q 1, I.q 2, I.q 3, I.q 4, I.q 5, I.q 6, I.q 7, I.sfx,
    arg3, harg3, s.w, s.d, s.c 0, s.c 1, s.c 2, s.c 3, s.c 4, s.c 5, s.c 6, s.c 7, s.a 0, s.a 1, s.a 2, s.a 3, s.a 4, s.a 5, s.a 6, s.a 7⟩

/-- The label's result at the carried values `s`. -/
abbrev res (s : St F) : (Λ₀ F).Result (1 : Fin 2) :=
  (s.w, s.d, s.c 0, s.c 1, s.c 2, s.c 3, s.c 4, s.c 5, s.c 6, s.c 7, s.a 0, s.a 1, s.a 2, s.a 3, s.a 4, s.a 5, s.a 6, s.a 7)

/-- What a point stores for sequence `b`: each head's output normalised by its root mean square and scaled by the gain. -/
def outB (s : St F) (g : Vec F S1x1x64 .f32) (b : Fin 2) : FVec F S1x128x256 .bf16 :=
  k0_pay1 (s.a (⟨4 * b.val + 1, by omega⟩)) (s.a (⟨4 * b.val + 2, by omega⟩)) (s.a (⟨4 * b.val + 3, by omega⟩)) (k0_pay45 g)
    (k0_pay50 (s.a (⟨4 * b.val, by omega⟩)) (k0_pay45 g))

/-! ## The window's start as an integer -/

/-- The start's word at a multiple of 128 a trip may meet, with `k` trips at most to go. -/
def At (k : ℕ) (w : BitVec 32) : Prop :=
  ∃ z : ℤ, w = BitVec.ofInt 32 z ∧ 128 ∣ z ∧ -384 ≤ z ∧ z ≤ 16256 ∧ z ≤ 256 * (k : ℤ) - 256

theorem toInt_ofInt_of (z : ℤ) (h1 : -2147483648 ≤ z) (h2 : z < 2147483648) : (BitVec.ofInt 32 z).toInt = z := by
  rw [BitVec.toInt_ofInt]; exact Int.bmod_eq_of_le (by norm_num; omega) (by norm_num; omega)

theorem toInt_eq_of_ofInt (w : BitVec 32) : w = BitVec.ofInt 32 w.toInt := by simp

theorem addi_ofInt (z : ℤ) : Scalar.addi (BitVec.ofInt 32 z) 256#32 = BitVec.ofInt 32 (z + 256) := by
  show BitVec.ofInt 32 z + 256#32 = _
  rw [BitVec.ofInt_add]; rfl

theorem subi_ofInt (z : ℤ) : Scalar.subi (BitVec.ofInt 32 z) 256#32 = BitVec.ofInt 32 (z - 256) := by
  show BitVec.ofInt 32 z - 256#32 = _
  rw [Int.sub_eq_add_neg, BitVec.ofInt_add, BitVec.sub_eq_add_neg]; rfl

/-- The first conjunct of the test: the window reaches past zero. -/
theorem sgt_iff (z : ℤ) (h1 : -384 ≤ z) (h2 : z ≤ 16256) :
    Scalar.cmpi .sgt (Scalar.addi (BitVec.ofInt 32 z) 256#32) 0#32 = 1#1 ↔ -256 < z := by
  rw [addi_ofInt]
  show BitVec.ofBool (BitVec.slt 0#32 (BitVec.ofInt 32 (z + 256))) = 1#1 ↔ _
  have : (BitVec.ofInt 32 (z + 256)).toInt = z + 256 := toInt_ofInt_of _ (by omega) (by omega)
  rw [BitVec.slt, this]
  simp only [BitVec.toInt_zero]
  constructor
  · intro h
    by_contra hn
    rw [decide_eq_false (by omega)] at h
    exact absurd h (by decide)
  · intro h
    rw [decide_eq_true (by omega)]; rfl

/-- A conjunction of words is one when both are. -/
theorem andi_left {a b : BitVec 1} (h : Scalar.andi a b = 1#1) : a = 1#1 := by revert a b; decide

theorem go_lt {s : St F} {z : ℤ} (hz : s.w = BitVec.ofInt 32 z) (h1 : -384 ≤ z) (h2 : z ≤ 16256) (h : go s) : -256 < z := by
  have := andi_left h
  rw [hz] at this
  exact (sgt_iff z h1 h2).mp this

/-- The row a window starts at: the start, or zero when it is negative. -/
theorem start_eq (z : ℤ) (h1 : -384 ≤ z) (h2 : z ≤ 16256) : (Scalar.maxsi (BitVec.ofInt 32 z) 0#32).toNat = z.toNat := by
  have hz : (BitVec.ofInt 32 z).toInt = z := toInt_ofInt_of _ (by omega) (by omega)
  unfold Scalar.maxsi IntOp.maxsi
  rw [BitVec.slt, hz]
  simp only [BitVec.toInt_zero]
  by_cases h : 0 < z
  · simp only [decide_eq_true_eq, h, if_true]
    rw [BitVec.toNat_ofInt]; omega
  · simp only [decide_eq_true_eq, h, if_false]
    show 0 = z.toNat
    omega

/-- Where a trip's loads of chain `n` start. -/
def off (n : Fin 8) (w : BitVec 32) : Fin 3 → ℕ := ![n.val / 4, (Scalar.maxsi w 0#32).toNat, n.val % 4 * 64]

theorem off_inb {n : Fin 8} {w : BitVec 32} (h : (Scalar.maxsi w 0#32).toNat ≤ 16256) : ∀ a, off n w a + S1x256x64.size a ≤ S2x16512x256.size a := by
  intro a
  fin_cases a
  · show n.val / 4 + 1 ≤ 2; omega
  · show (Scalar.maxsi w 0#32).toNat + 256 ≤ 16512; omega
  · show n.val % 4 * 64 + 64 ≤ 256; omega

/-- What a trip assumes of its window's start holds at every window the test admits. -/
theorem chk {w : BitVec 32} {z : ℤ} (hz : w = BitVec.ofInt 32 z) (hd : 128 ∣ z) (h1 : -384 ≤ z) (h2 : z ≤ 16256) : k0_chk1 w := by
  have hs : (Scalar.maxsi w 0#32).toNat = z.toNat := by rw [hz]; exact start_eq z h1 h2
  have hb : (Scalar.maxsi w 0#32).toNat ≤ 16256 := by omega
  refine ⟨?_, off_inb (n := 0) hb, off_inb (n := 1) hb, off_inb (n := 2) hb, off_inb (n := 3) hb, off_inb (n := 4) hb, off_inb (n := 5) hb,
    off_inb (n := 6) hb, off_inb (n := 7) hb⟩
  show 128 ∣ (Scalar.maxsi w 0#32).toNat
  rw [hs]; omega

/-- A load of chain `n`'s tile reads `tile`. -/
theorem tile_read (x : Vec F S2x16512x256 .bf16) (n : Fin 8) (w : BitVec 32) (o : Fin 3 → ℕ) (ho : o = off n w)
    (h : ∀ a, o a + S1x256x64.size a ≤ S2x16512x256.size a) :
    (fun y => x ((Rect.unit (s := S2x16512x256) o S1x256x64.size h).idx y)) = tile x n w := by
  subst ho
  funext y
  unfold tile
  congr 1
  funext a
  have h0 : (y 0).val < 1 := (y 0).isLt
  have h1 : (y 1).val < 256 := (y 1).isLt
  have hh : (Scalar.maxsi w 0#32).toNat + 256 ≤ 16512 := h 1
  apply Fin.ext
  rw [Rect.idx_unit_val]
  fin_cases a
  · show n.val / 4 + (y 0).val = n.val / 4; omega
  · show (Scalar.maxsi w 0#32).toNat + (y 1).val = ((Scalar.maxsi w 0#32).toNat + (y 1).val) % 16512
    rw [Nat.mod_eq_of_lt (by omega)]
  · rfl

/-- A load of chain `n`'s queries reads `qTile`. -/
theorem qTile_read (x : Vec F S2x128x256 .bf16) (n : Fin 8) (o : Fin 3 → ℕ) (ho : o = ![n.val / 4, 0, n.val % 4 * 64])
    (h : ∀ a, o a + S1x128x64.size a ≤ S2x128x256.size a) :
    (fun y => x ((Rect.unit (s := S2x128x256) o S1x128x64.size h).idx y)) = qTile x n := by
  subst ho
  funext y
  unfold qTile
  congr 1
  funext a
  have h0 : (y 0).val < 1 := (y 0).isLt
  apply Fin.ext
  rw [Rect.idx_unit_val]
  fin_cases a
  · show n.val / 4 + (y 0).val = n.val / 4; omega
  · show 0 + (y 1).val = (y 1).val; omega
  · rfl

end Cert.KernelIdeal.Sb

end
-- ==== Proof.KI.Loop.lean ====
/-
  The kernel's while label: holding the keys' and the values' buffers, it returns the carried values after the trips the
  test admits and gives the buffers back. By induction on the trips still to run: the window's start goes down by 256 each
  trip, so from any block's start 65 trips are enough whatever the early-exit flag says.
-/
module

public import proofs.«01_k».proof.Proof.KI.Step

@[expose] public section

set_option maxRecDepth 65536

noncomputable section

namespace Cert.KernelIdeal.Sb

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A variant of natural numbers: the trips still to run. -/
abbrev 𝒱₀ : Variants := Variants.nat

section Rule

variable (c : Dev nD) {α : Type} {cs : CoreSpace} {sh : Shape} {e : EltTy}

/-- A load from a buffer held whole, at the array it holds. -/
theorem wp_ld (bd : Option 𝒱₀.V) (E : Set ℕ) {Q : α → sProp 𝕄} {m : Memref sig .tc cs sh e} (hm : m.IsWhole) (x : Vec F sh e)
    {r : Rect sh} {hl : m.view.LoadsAt r.toLoadRect} {k : (r.toLoadRect.shape.Idx → Elt F e) → Prog (TpuEff nD τ sig (Elt F) (Λ₀ F) .tc) α}
    (v : r.toLoadRect.shape.Idx → Elt F e) (hv : (fun y => x (r.idx y)) = v) :
    ((m.view.loc (c : Thread nD τ)) ↦[m.view.set]{fullShare} hm.unread x)
      ⊢ iprop((((m.view.loc (c : Thread nD τ)) ↦[m.view.set]{fullShare} hm.unread x) -∗ wp frame (wpE (defs₀ (F := F)) 𝒱₀ (c : Thread nD τ) bd) E (k v) Q)
        -∗ wp frame (wpE (defs₀ (F := F)) 𝒱₀ (c : Thread nD τ) bd) E (.op (.load m r.toLoadRect hl) k) Q) := by
  have h : ((m.view.loc (c : Thread nD τ)) ↦[m.view.set]{fullShare} hm.unread x)
      ⊢ iprop((((m.view.loc (c : Thread nD τ)) ↦[m.view.set]{fullShare} hm.unread x)
          -∗ wp frame (wpE (defs₀ (F := F)) 𝒱₀ (c : Thread nD τ) bd) E (k (m.view.readAt (Elt F) r.toLoadRect (hm.unread x))) Q)
        -∗ wp frame (wpE (defs₀ (F := F)) 𝒱₀ (c : Thread nD τ) bd) E (.op (.load m r.toLoadRect hl) k) Q) :=
    wp_load 𝒱₀ (c : Thread nD τ) bd E (View.setOn_subset_set _ _)
  have e : m.view.readAt (Elt F) r.toLoadRect (hm.unread x) = v := by
    rw [← hv]; funext y; rw [View.readAt_apply, hm.read_unread]
  rw [e] at h
  exact h

end Rule

section Label

variable (c : Dev nD) (I : Ins F) (arg2 : Memref sig .tc .vmem S2x16512x256 .bf16) (harg2 : arg2.IsWhole)
  (arg3 : Memref sig .tc .vmem S2x16512x256 .bf16) (harg3 : arg3.IsWhole)

/-- The keys' and the values' buffers at their arrays. -/
def held : sProp 𝕄 :=
  iprop(((arg2.view.loc (c : Thread nD τ)) ↦[arg2.view.set]{fullShare} harg2.unread I.xk) ∗ ((arg3.view.loc (c : Thread nD τ)) ↦[arg3.view.set]{fullShare} harg3.unread I.xv))

/-- The label's specification with `k` trips at most to run from `s`. -/
def spec (k : ℕ) (s : St F) : sWPT 𝕄 ((Λ₀ F).Result (1 : Fin 2)) := do
  sWPT.consume (held c I arg2 harg2 arg3 harg3)
  sWPT.produce (held c I arg2 harg2 arg3 harg3)
  pure (res (run I k s))

theorem spec_apply (k : ℕ) (s : St F) (K : (Λ₀ F).Result (1 : Fin 2) → sProp 𝕄) :
    spec c I arg2 harg2 arg3 harg3 k s K
      = iprop(held c I arg2 harg2 arg3 harg3 ∗ (held c I arg2 harg2 arg3 harg3 -∗ K (res (run I k s)))) := rfl

set_option maxHeartbeats 4000000 in
theorem spec_le (E : Set ℕ) : ∀ k (s : St F), At k s.w → ∀ K, spec c I arg2 harg2 arg3 harg3 k s K
    ⊢ wp frame (wpE (defs₀ (F := F)) 𝒱₀ (c : Thread nD τ) (some k)) E (defs₀ (F := F) .tc 1 (rec_ I arg2 harg2 arg3 harg3 s)) K := by
  intro k
  induction k with
  | zero =>
    intro s hs K
    obtain ⟨z, hz, hd, h1, h2, h3⟩ := hs
    have hg : ¬ go s := fun h => by have := go_lt hz h1 h2 h; omega
    rw [spec_apply]
    show _ ⊢ wp frame (wpE (defs₀ (F := F)) 𝒱₀ (c : Thread nD τ) (some 0)) E
      (cc0_while1 I.i (iota .tc S128x256 32 [1] iota_S128x256_d1_w32) (k0_pay19 I.i) arg2 harg2 (I.q 0) (I.q 1) (I.q 2) (I.q 3) (I.q 4) (I.q 5) (I.q 6) (I.q 7)
        I.sfx arg3 harg3 s.w s.d (s.c 0) (s.c 1) (s.c 2) (s.c 3) (s.c 4) (s.c 5) (s.c 6) (s.c 7) (s.a 0) (s.a 1) (s.a 2) (s.a 3) (s.a 4) (s.a 5) (s.a 6) (s.a 7)) K
    simp only [cc0_while1_eq_skeleton]; unfold cc0_while1_skel
    have htest : ¬ Scalar.andi (Scalar.cmpi .sgt (Scalar.addi s.w 256#32) 0#32) (Scalar.xori s.d 1#1) = 1#1 := hg
    simp only [htest, ↓reduceIte, Prog.pure_eq_ret]
    iintro ⟨H, Hk⟩
    rw [wp_ret]; imodintro
    simp only [run]
    iapply Hk
    iexact H
  | succ k ih =>
    intro s hs K
    obtain ⟨z, hz, hd, h1, h2, h3⟩ := hs
    rw [spec_apply]
    show _ ⊢ wp frame (wpE (defs₀ (F := F)) 𝒱₀ (c : Thread nD τ) (some (k + 1))) E
      (cc0_while1 I.i (iota .tc S128x256 32 [1] iota_S128x256_d1_w32) (k0_pay19 I.i) arg2 harg2 (I.q 0) (I.q 1) (I.q 2) (I.q 3) (I.q 4) (I.q 5) (I.q 6) (I.q 7)
        I.sfx arg3 harg3 s.w s.d (s.c 0) (s.c 1) (s.c 2) (s.c 3) (s.c 4) (s.c 5) (s.c 6) (s.c 7) (s.a 0) (s.a 1) (s.a 2) (s.a 3) (s.a 4) (s.a 5) (s.a 6) (s.a 7)) K
    simp only [cc0_while1_eq_skeleton]; unfold cc0_while1_skel
    by_cases hg : go s
    · have htest : Scalar.andi (Scalar.cmpi .sgt (Scalar.addi s.w 256#32) 0#32) (Scalar.xori s.d 1#1) = 1#1 := hg
      have hlt := go_lt hz h1 h2 hg
      have hchk : k0_chk1 s.w := chk hz hd h1 h2
      have hrun : run I (k + 1) s = run I k (step I s) := if_pos hg
      have hnext : At k (step I s).w := ⟨z - 256, by show Scalar.subi s.w 256#32 = _; rw [hz, subi_ofInt], by omega, by omega, by omega, by push_cast at h3; omega⟩
      simp only [htest, ↓reduceIte, k0_part4_eq_skeleton, k0_part5_eq_skeleton, k0_part6_eq_skeleton, k0_part7_eq_skeleton, k0_part8_eq_skeleton,
        k0_part9_eq_skeleton, k0_part10_eq_skeleton]
      simp only [k0_part4_skel, k0_part5_skel, k0_part6_skel, k0_part7_skel, k0_part8_skel,
        k0_part9_skel, k0_part10_skel, Prog.lift, Prog.bind_op, Prog.bind_ret, Prog.pure_eq_ret]
      unfold held
      iintro ⟨⟨Hk, Hv⟩, HK⟩
      iapply (wp_assume 𝒱₀ (c : Thread nD τ) (some (k + 1)) E hchk)
      iapply (wp_ld c (some (k + 1)) E harg2 I.xk (tile I.xk 0 s.w) (tile_read _ 0 _ _ rfl _)) $$ Hk; iintro Hk
      iapply (wp_ld c (some (k + 1)) E harg2 I.xk (tile I.xk 1 s.w) (tile_read _ 1 _ _ rfl _)) $$ Hk; iintro Hk
      iapply (wp_ld c (some (k + 1)) E harg2 I.xk (tile I.xk 2 s.w) (tile_read _ 2 _ _ rfl _)) $$ Hk; iintro Hk
      iapply (wp_ld c (some (k + 1)) E harg2 I.xk (tile I.xk 3 s.w) (tile_read _ 3 _ _ rfl _)) $$ Hk; iintro Hk
      iapply (wp_ld c (some (k + 1)) E harg2 I.xk (tile I.xk 4 s.w) (tile_read _ 4 _ _ rfl _)) $$ Hk; iintro Hk
      iapply (wp_ld c (some (k + 1)) E harg2 I.xk (tile I.xk 5 s.w) (tile_read _ 5 _ _ rfl _)) $$ Hk; iintro Hk
      iapply (wp_ld c (some (k + 1)) E harg2 I.xk (tile I.xk 6 s.w) (tile_read _ 6 _ _ rfl _)) $$ Hk; iintro Hk
      iapply (wp_ld c (some (k + 1)) E harg2 I.xk (tile I.xk 7 s.w) (tile_read _ 7 _ _ rfl _)) $$ Hk; iintro Hk
      iapply (wp_ld c (some (k + 1)) E harg3 I.xv (tile I.xv 0 s.w) (tile_read _ 0 _ _ rfl _)) $$ Hv; iintro Hv
      iapply (wp_ld c (some (k + 1)) E harg3 I.xv (tile I.xv 1 s.w) (tile_read _ 1 _ _ rfl _)) $$ Hv; iintro Hv
      iapply (wp_ld c (some (k + 1)) E harg3 I.xv (tile I.xv 2 s.w) (tile_read _ 2 _ _ rfl _)) $$ Hv; iintro Hv
      iapply (wp_ld c (some (k + 1)) E harg3 I.xv (tile I.xv 3 s.w) (tile_read _ 3 _ _ rfl _)) $$ Hv; iintro Hv
      iapply (wp_ld c (some (k + 1)) E harg3 I.xv (tile I.xv 4 s.w) (tile_read _ 4 _ _ rfl _)) $$ Hv; iintro Hv
      iapply (wp_ld c (some (k + 1)) E harg3 I.xv (tile I.xv 5 s.w) (tile_read _ 5 _ _ rfl _)) $$ Hv; iintro Hv
      iapply (wp_ld c (some (k + 1)) E harg3 I.xv (tile I.xv 6 s.w) (tile_read _ 6 _ _ rfl _)) $$ Hv; iintro Hv
      iapply (wp_ld c (some (k + 1)) E harg3 I.xv (tile I.xv 7 s.w) (tile_read _ 7 _ _ rfl _)) $$ Hv; iintro Hv
      iapply (wp_call_spec 𝒱₀ (c : Thread nD τ) (some (k + 1)) E (spec c I arg2 harg2 arg3 harg3 k (step I s)) k
        (fun u hu => by cases hu; exact Nat.lt_succ_self k) (ih (step I s) hnext))
      rw [spec_apply]
      isplitl [Hk Hv]
      · unfold held; isplitl [Hk]
        · iexact Hk
        · iexact Hv
      iintro H
      rw [wp_ret]; imodintro
      rw [hrun]
      iapply HK
      unfold held
      iexact H
    · have htest : ¬ Scalar.andi (Scalar.cmpi .sgt (Scalar.addi s.w 256#32) 0#32) (Scalar.xori s.d 1#1) = 1#1 := hg
      have hrun : run I (k + 1) s = s := if_neg hg
      simp only [htest, ↓reduceIte, Prog.pure_eq_ret]
      iintro ⟨H, HK⟩
      rw [wp_ret]; imodintro
      rw [hrun]
      iapply HK
      iexact H

end Label

end Cert.KernelIdeal.Sb

end
-- ==== Proof.KI.Body.lean ====
/-
  The kernel's body at one grid point: on staging buffers holding the point's queries, the keys, the values, the suffix
  table and the gain, it leaves the inputs as they were and the result's buffer with the two sequences' blocks written.
-/
module

public import proofs.«01_k».proof.Proof.KI.Loop

@[expose] public section

set_option maxRecDepth 65536

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load through a whole array's rectangle reads the array. -/
theorem full_read {s : Shape} {α : Type} (x : s.Idx → α) (o : Fin s.rank → ℕ) (ho : ∀ a, o a = 0) (h : ∀ a, o a + s.size a ≤ s.size a) :
    (fun y => x ((Rect.unit (s := s) o s.size h).idx y)) = x := by
  funext y
  congr 1
  funext a
  apply Fin.ext
  rw [Rect.idx_unit_val, ho, Nat.zero_add]

/-- The first block's start, and that 65 trips are enough from it. -/
theorem at0 (i : grid0.Coords) : At 65 (st0 (F := F) i).w := by
  have hi : (i 0).val < 129 := (i 0).isLt
  refine ⟨(i 0).val * 128 - 128, ?_, by omega, by omega, by omega, by omega⟩
  show (BitVec.ofNat 32 (i 0).val + 1#32) * 128#32 - 256#32 = _
  apply BitVec.eq_of_toInt_eq
  rw [toInt_ofInt_of _ (by omega) (by omega)]
  generalize (i 0).val = j at hi
  have e : (BitVec.ofNat 32 j + 1#32) * 128#32 - 256#32 = BitVec.ofInt 32 ((j : ℤ) * 128 - 128) := by
    have h1 : BitVec.ofNat 32 j = BitVec.ofInt 32 (j : ℤ) := by simp
    rw [h1, show (1#32 : BitVec 32) = BitVec.ofInt 32 1 from rfl, show (128#32 : BitVec 32) = BitVec.ofInt 32 128 from rfl,
      show (256#32 : BitVec 32) = BitVec.ofInt 32 256 from rfl, ← BitVec.ofInt_add, ← BitVec.ofInt_mul]
    have : (j : ℤ) * 128 - 128 = ((j : ℤ) + 1) * 128 + (-256) := by omega
    rw [this, BitVec.ofInt_add, BitVec.sub_eq_add_neg]; rfl
  rw [e, toInt_ofInt_of _ (by omega) (by omega)]

/-- The carried values the loop ends with at a grid point. -/
def fin (i : grid0.Coords) (x0 : Vec F S2x128x256 .bf16) (x1 x2 : Vec F S2x16512x256 .bf16) (x3 : Vec F S256x384 .bf16) : St F :=
  run (ins i x0 x1 x2 x3) 65 (st0 i)

/-- The two stores of the result's buffer, last first. -/
def pieces (i : grid0.Coords) (x0 : Vec F S2x128x256 .bf16) (x1 x2 : Vec F S2x16512x256 .bf16) (x3 : Vec F S256x384 .bf16)
    (x4 : Vec F S1x1x64 .f32) : List (View.Piece (Elt F) S2x128x256 .bf16) :=
  [⟨Rect.unit (s := S2x128x256) ![1, 0, 0] S1x128x256.size inb_S2x128x256_S1x128x256_1_0_0, outB (fin i x0 x1 x2 x3) x4 1⟩,
    ⟨Rect.unit (s := S2x128x256) ![0, 0, 0] S1x128x256.size inb_S2x128x256_S1x128x256_0_0_0, outB (fin i x0 x1 x2 x3) x4 0⟩]

set_option maxHeartbeats 4000000 in
theorem body_run (c : Dev nD) (i : grid0.Coords) (arg1 : Memref sig .tc .vmem S2x128x256 .bf16) (harg1 : arg1.IsWhole) (arg2 : Memref sig .tc .vmem S2x16512x256 .bf16) (harg2 : arg2.IsWhole)
    (arg3 : Memref sig .tc .vmem S2x16512x256 .bf16) (harg3 : arg3.IsWhole) (arg4 : Memref sig .tc .vmem S256x384 .bf16) (harg4 : arg4.IsWhole)
    (arg5 : Memref sig .tc .vmem S1x1x64 .f32) (harg5 : arg5.IsWhole) (arg6 : Memref sig .tc .vmem S2x128x256 .bf16) (harg6 : arg6.IsWhole)
    (x0 : Vec F S2x128x256 .bf16) (x1 : Vec F S2x16512x256 .bf16) (x2 : Vec F S2x16512x256 .bf16) (x3 : Vec F S256x384 .bf16) (x4 : Vec F S1x1x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4
            ∗ (∃ f, arg6.view.loc (c : Thread nD τ) ↦[arg6.view.set]{fullShare} arg6.view.writes (Elt F) f (pieces i x0 x1 x2 x3 x4))) -∗ K ⟨⟩))
      ⊢ wp frame (wpE (defs₀ (F := F)) 𝒱₀ (c : Thread nD τ) none) E (cc0_sb_attention i arg1 harg1 arg2 harg2 arg3 harg3 arg4 harg4 arg5 harg5 arg6 harg6) K := by
  simp only [cc0_sb_attention_eq_skeleton]; unfold cc0_sb_attention_skel
  simp only [k0_part1_eq_skeleton, k0_part2_eq_skeleton, k0_part3_eq_skeleton]
  simp only [k0_part1_skel, k0_part2_skel, k0_part3_skel, Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  iapply (wp_ld c none E harg1 x0 (qTile x0 0) (qTile_read _ 0 _ rfl _)) $$ H0; iintro H0
  iapply (wp_ld c none E harg1 x0 (qTile x0 1) (qTile_read _ 1 _ rfl _)) $$ H0; iintro H0
  iapply (wp_ld c none E harg1 x0 (qTile x0 2) (qTile_read _ 2 _ rfl _)) $$ H0; iintro H0
  iapply (wp_ld c none E harg1 x0 (qTile x0 3) (qTile_read _ 3 _ rfl _)) $$ H0; iintro H0
  iapply (wp_ld c none E harg1 x0 (qTile x0 4) (qTile_read _ 4 _ rfl _)) $$ H0; iintro H0
  iapply (wp_ld c none E harg1 x0 (qTile x0 5) (qTile_read _ 5 _ rfl _)) $$ H0; iintro H0
  iapply (wp_ld c none E harg1 x0 (qTile x0 6) (qTile_read _ 6 _ rfl _)) $$ H0; iintro H0
  iapply (wp_ld c none E harg1 x0 (qTile x0 7) (qTile_read _ 7 _ rfl _)) $$ H0; iintro H0
  iapply (wp_ld c none E harg4 x3 x3 (full_read x3 _ (by intro a; fin_cases a <;> rfl) _)) $$ H3; iintro H3
  iapply (wp_call_spec 𝒱₀ (c : Thread nD τ) none E (spec c (ins i x0 x1 x2 x3) arg2 harg2 arg3 harg3 65 (st0 i)) (65 : ℕ)
    (fun u hu => nomatch hu) (spec_le c (ins i x0 x1 x2 x3) arg2 harg2 arg3 harg3 E 65 (st0 i) (at0 i)))
  rw [spec_apply]
  isplitl [H1 H2]
  · unfold held; isplitl [H1]
    · iexact H1
    · iexact H2
  unfold held
  iintro ⟨H1, H2⟩
  simp only [res]
  iapply (wp_ld c none E harg5 x4 x4 (full_read x4 _ (by intro a; fin_cases a <;> rfl) _)) $$ H4; iintro H4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; iexact H5

end Cert.KernelIdeal.Sb

end
-- ==== Proof.KI.Frame.lean ====
/-
  The launch of the stick-breaking call: each window's staging buffer holds its block at every grid point, the body leaves
  the result's block at `outsAt`, and so every run of the program ends with the result's array written block by block and
  the arguments as they were.
-/
module

public import proofs.«01_k».proof.Proof.KI.Body
public import Idealize.ShloMosaic.Lib.Ring

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the call -/

/-- The buffers as the call finds them: after the host operations before it. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ops_fresh main_chain

/-- The host operations write no argument. -/
theorem V_arg (c : Dev nD) (b : Ref sig .tc) (hb : b ∈ [main_arg0, main_arg1, main_arg2, main_arg3]) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    obtain rfl | rfl | rfl | rfl := hb
    all_goals
      repeat' apply And.intro
      all_goals exact StableHlo.devRef_ne_of_ne (by decide)))

/-! ## The windows' blocks -/

/-- Window `w`'s block at point `t` of its array as the call finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- A staging buffer of the result's window, through which its contents are stated. -/
abbrev VO : View sig .tc .vmem S2x128x256 .bf16 := (Memref.whole cc0_stg5_0 : Memref sig .tc .vmem S2x128x256 .bf16).view

abbrev ms0 (t : Fin (cfg0 (F := F)).N) : Memref sig .tc .vmem S2x128x256 .bf16 := win0_0.stage (cfg0.slots t 0)
abbrev hs0 (t : Fin (cfg0 (F := F)).N) : (ms0 t).IsWhole := hstage0_0 ((cfg0.slots t 0).cast nbuf0_0)
abbrev ms1 (t : Fin (cfg0 (F := F)).N) : Memref sig .tc .vmem S2x16512x256 .bf16 := win0_1.stage (cfg0.slots t 1)
abbrev hs1 (t : Fin (cfg0 (F := F)).N) : (ms1 t).IsWhole := hstage0_1 ((cfg0.slots t 1).cast nbuf0_1)
abbrev ms2 (t : Fin (cfg0 (F := F)).N) : Memref sig .tc .vmem S2x16512x256 .bf16 := win0_2.stage (cfg0.slots t 2)
abbrev hs2 (t : Fin (cfg0 (F := F)).N) : (ms2 t).IsWhole := hstage0_2 ((cfg0.slots t 2).cast nbuf0_2)
abbrev ms3 (t : Fin (cfg0 (F := F)).N) : Memref sig .tc .vmem S256x384 .bf16 := win0_3.stage (cfg0.slots t 3)
abbrev hs3 (t : Fin (cfg0 (F := F)).N) : (ms3 t).IsWhole := hstage0_3 ((cfg0.slots t 3).cast nbuf0_3)
abbrev ms4 (t : Fin (cfg0 (F := F)).N) : Memref sig .tc .vmem S1x1x64 .f32 := win0_4.stage (cfg0.slots t 4)
abbrev hs4 (t : Fin (cfg0 (F := F)).N) : (ms4 t).IsWhole := hstage0_4 ((cfg0.slots t 4).cast nbuf0_4)
abbrev ms5 (t : Fin (cfg0 (F := F)).N) : Memref sig .tc .vmem S2x128x256 .bf16 := win0_5.stage (cfg0.slots t 5)
abbrev hs5 (t : Fin (cfg0 (F := F)).N) : (ms5 t).IsWhole := hstage0_5 ((cfg0.slots t 5).cast nbuf0_5)

/-- The two stores cover the result's block. -/
theorem cover (i : grid0.Coords) (x0 : Vec F S2x128x256 .bf16) (x1 : Vec F S2x16512x256 .bf16) (x2 : Vec F S2x16512x256 .bf16) (x3 : Vec F S256x384 .bf16) (x4 : Vec F S1x1x64 .f32)
    (y : S2x128x256.Idx) : ∃ pc ∈ pieces i x0 x1 x2 x3 x4, y ∈ pc.1.set :=
  View.cover_of_tiledL (pieces i x0 x1 x2 x3 x4) S1x128x256.size (by sl_kernel_rfl) y

/-- The result's block after a point: the stores read back. -/
def out (i : grid0.Coords) (x0 : Vec F S2x128x256 .bf16) (x1 : Vec F S2x16512x256 .bf16) (x2 : Vec F S2x16512x256 .bf16) (x3 : Vec F S256x384 .bf16) (x4 : Vec F S1x1x64 .f32) :
    Vec F S2x128x256 .bf16 :=
  VO.read (Elt F) (VO.writes (Elt F) VO.junk (pieces i x0 x1 x2 x3 x4))

/-- The result's block at point `t` from the windows' blocks there. -/
def outsAt (c : Dev nD) (t : Fin (cfg0 (F := F)).N) : Vec F S2x128x256 .bf16 :=
  out (grid0.coords t) (iblk m c 0 t) (iblk m c 1 t) (iblk m c 2 t) (iblk m c 3 t) (iblk m c 4 t)

/-! ## The pipeline's proof data -/

/-- The arrays as the call finds them; after a point each input's buffer at its block, the result's at `outsAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = outsAt m c t := by dsimp only [dats]; rfl

/-- Each input's buffer holds its block when a point's body runs. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outsAt out
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover _ _ _ _ _ _)

theorem row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

/-! ## The run and the frame -/

-- the launch theorem's implicit arguments are found by unfolding plain definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- Every final state has the arguments as launched, the result's array at what the points wrote, and no counter raised. -/
theorem run_all : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v10) = (dats m 0 c).arrAt 5 (cfg0 (F := F)).N) :=
  (θ_run defs _ _).mono (fun _ h => ⟨⟨fun c => ⟨((h.1 c).1 0).trans (((dats m 0 c).arrAt_in 0 rfl _).trans ((A_eq m c 0).trans (V_arg m c main_arg0 (by simp)))),
      ((h.1 c).1 1).trans (((dats m 0 c).arrAt_in 1 rfl _).trans ((A_eq m c 1).trans (V_arg m c main_arg1 (by simp)))),
      ((h.1 c).1 2).trans (((dats m 0 c).arrAt_in 2 rfl _).trans ((A_eq m c 2).trans (V_arg m c main_arg2 (by simp)))),
      ((h.1 c).2 main_arg3 (Pipeline.mem_restRefs_of main_arg3 (by decide) (by decide : ∀ w : Fin 6, (spec0 w).arr.view.ref ≠ main_arg3))).trans (V_arg m c main_arg3 (by simp))⟩, h.2⟩,
      fun c => (h.1 c).1 5⟩) (run_main_quiescent m ρ)

/-- The frame: the arguments end as launched and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1) (run_all m ρ)

end Cert.KernelIdeal.Sb

end
-- ==== Proof.Val.Math.lean ====
/-
  The arithmetic of stick-breaking weights, over plain numbers: `sp x = log (1 + eˣ)` as the kernel and the reference
  spell it, the logarithm of what a key leaves (`lk`), a key's weight (`wt`), a query's output (`att`), and what the
  kernel holds of both sums once every key from `e` on is seen (`carry`, `acc`).
-/
module

public import Idealize.ShloMosaic.PureOps.Ideal
public import Idealize.ShloMosaic.Lib.IdealHost

@[expose] public section

noncomputable section

namespace Cert.SbMath

open Idealize.ShloMosaic
open scoped BigOperators

/-- `log (1 + eˣ)`. -/
def sp (x : EReal) : EReal := max x 0 + Ideal.log (1 + Ideal.exp (0 - max x (-x)))

theorem coe_max (x y : ℝ) : max (x : EReal) (y : EReal) = ((max x y : ℝ) : EReal) :=
  (EReal.coe_strictMono.monotone.map_max).symm

theorem coe_abs (x : ℝ) : max (x : EReal) (-(x : EReal)) = ((|x| : ℝ) : EReal) := by
  rw [← EReal.coe_neg, coe_max]; rfl

/-- The logarithm of `1 + y` for `y` positive is the real one. -/
theorem log_one_add_exp (y : ℝ) : Ideal.log (1 + Ideal.exp (y : EReal)) = ((Real.log (1 + Real.exp y) : ℝ) : EReal) := by
  have h : (1 : EReal) + Ideal.exp (y : EReal) = ((1 + Real.exp y : ℝ) : EReal) := by
    rw [Ideal.exp_coe, EReal.coe_add, EReal.coe_one]
  rw [h, Ideal.log_coe, if_neg (by have := Real.exp_pos y; linarith)]

/-- At a real, it is real. -/
theorem sp_coe (x : ℝ) : sp (x : EReal) = ((max x 0 + Real.log (1 + Real.exp (-|x|)) : ℝ) : EReal) := by
  unfold sp
  rw [coe_abs, zero_sub, ← EReal.coe_neg, log_one_add_exp, ← EReal.coe_zero, coe_max, ← EReal.coe_add]

theorem sp_top : sp ⊤ = ⊤ := by
  unfold sp
  rw [max_eq_left le_top, max_eq_left le_top, zero_sub, EReal.neg_top, Ideal.exp_bot, add_zero, ← EReal.coe_one, Ideal.log_coe]
  simp

theorem sp_bot : sp ⊥ = 0 := by
  unfold sp
  rw [max_eq_right bot_le, EReal.neg_bot, max_eq_right bot_le, zero_sub, EReal.neg_top, Ideal.exp_bot, add_zero, ← EReal.coe_one, Ideal.log_coe]
  simp

/-- `log (1 + e⁻ˣ) = log (1 + eˣ) - x` at a real. -/
theorem sp_neg (x : ℝ) : sp ((-x : ℝ) : EReal) = sp (x : EReal) - (x : EReal) := by
  rw [sp_coe, sp_coe, ← EReal.coe_sub, abs_neg]
  have : max (-x) 0 = max x 0 - x := by
    rcases le_total x 0 with h | h
    · rw [max_eq_left (by linarith), max_eq_right h]; ring
    · rw [max_eq_right (by linarith), max_eq_left h]; ring
  rw [this]; congr 1; ring

/-- A query at position `p` attends the keys before it that are not padding. -/
def ok (p k : ℕ) : Prop := k < p ∧ 112 ≤ k

instance (p k : ℕ) : Decidable (ok p k) := by unfold ok; infer_instance

/-- The logarithm of the part of the stick key `k` leaves. -/
def lk (z : ℕ → EReal) (p k : ℕ) : EReal := if ok p k then -sp (z k) else 0

/-- Key `k`'s weight: its own share of what the later keys leave. -/
def wt (z : ℕ → EReal) (p k : ℕ) : EReal :=
  if ok p k then Ideal.exp (z k - sp (z k) + ∑ j ∈ Finset.Ioo k 16512, lk z p j) else 0

/-- The logarithm of what the keys from `e` on leave. -/
def carry (z : ℕ → EReal) (p e : ℕ) : EReal := ∑ j ∈ Finset.Ico e 16512, lk z p j

/-- The keys from `e` on, weighted. -/
def acc (z : ℕ → EReal) (v : ℕ → EReal) (p e : ℕ) : EReal := ∑ k ∈ Finset.Ico e 16512, wt z p k * v k

/-- The output: every key weighted. -/
def att (z : ℕ → EReal) (v : ℕ → EReal) (p : ℕ) : EReal := acc z v p 0

theorem carry_start (z : ℕ → EReal) {p e : ℕ} (h : p ≤ e) : carry z p e = 0 :=
  Finset.sum_eq_zero fun j hj => if_neg fun ho => by have := (Finset.mem_Ico.mp hj).1; have := ho.1; omega

theorem acc_start (z : ℕ → EReal) (v : ℕ → EReal) {p e : ℕ} (h : p ≤ e) : acc z v p e = 0 :=
  Finset.sum_eq_zero fun j hj => by
    rw [wt, if_neg fun ho => by have := (Finset.mem_Ico.mp hj).1; have := ho.1; omega, zero_mul]

/-- A sum over a tile of 256 keys from `s` of what lies before `e`. -/
theorem sum_tile {M : Type*} [AddCommMonoid M] (f : ℕ → M) {s e : ℕ} (h : e ≤ s + 256) :
    ∑ r : Fin 256, (if s + r.val < e then f (s + r.val) else 0) = ∑ j ∈ Finset.Ico s e, f j := by
  rw [Fin.sum_univ_eq_sum_range (fun r => if s + r < e then f (s + r) else 0) 256, Finset.sum_Ico_eq_sum_range,
    ← Finset.sum_filter]
  refine Finset.sum_congr (Finset.ext fun r => ?_) fun _ _ => rfl
  rw [Finset.mem_filter, Finset.mem_range, Finset.mem_range]
  omega

/-- The log of what key `r` of the tile from `s` leaves, as the kernel masks it: keys from `e` on were seen before. -/
def lkt (z : ℕ → EReal) (p s e r : ℕ) : EReal := if s + r < min p e ∧ 112 ≤ s + r then -sp (z (s + r)) else 0

theorem lkt_eq (z : ℕ → EReal) (p s e r : ℕ) : lkt z p s e r = if s + r < e then lk z p (s + r) else 0 := by
  unfold lkt lk ok
  by_cases h : s + r < e
  · rw [if_pos h]; exact if_congr (by omega) rfl rfl
  · rw [if_neg h, if_neg (by omega)]

/-- The whole tile moves the carry from `e` to `s`. -/
theorem carry_tile (z : ℕ → EReal) (p : ℕ) {s e : ℕ} (hs : s ≤ e) (h : e ≤ s + 256) (he : e ≤ 16512) :
    carry z p e + ∑ r : Fin 256, lkt z p s e r.val = carry z p s := by
  rw [Finset.sum_congr rfl fun r _ => lkt_eq z p s e r.val, sum_tile (lk z p) h, add_comm]
  exact Finset.sum_Ico_consecutive _ hs he

/-- The tile's keys after `c`, and the carry, are all the keys after `s + c`. -/
theorem after_tile (z : ℕ → EReal) (p : ℕ) {s e c : ℕ} (h : e ≤ s + 256) (he : e ≤ 16512) (hc : s + c < e) :
    (∑ r : Fin 256, if c < r.val then lkt z p s e r.val else 0) + carry z p e = ∑ j ∈ Finset.Ioo (s + c) 16512, lk z p j := by
  have e1 : (∑ r : Fin 256, if c < r.val then lkt z p s e r.val else 0)
      = ∑ r : Fin 256, if s + r.val < e then (fun j => if s + c < j then lk z p j else 0) (s + r.val) else 0 :=
    Finset.sum_congr rfl fun r _ => by
      rw [lkt_eq]
      dsimp only
      by_cases h1 : c < r.val
      · rw [if_pos h1, if_pos (by omega : s + c < s + r.val)]
      · rw [if_neg h1, if_neg (by omega : ¬s + c < s + r.val), ite_self]
  rw [e1, sum_tile (fun j => if s + c < j then lk z p j else 0) h, ← Finset.sum_filter]
  have e2 : (Finset.Ico s e).filter (fun j => s + c < j) = Finset.Ico (s + c + 1) e := by
    ext j; rw [Finset.mem_filter, Finset.mem_Ico, Finset.mem_Ico]; omega
  have e3 : Finset.Ioo (s + c) 16512 = Finset.Ico (s + c + 1) 16512 := by
    ext j; rw [Finset.mem_Ioo, Finset.mem_Ico]; omega
  rw [e2, e3]
  exact Finset.sum_Ico_consecutive _ (by omega) he

/-- The weight of key `c` of the tile, as the kernel computes it. -/
def wtt (z : ℕ → EReal) (p s e c : ℕ) : EReal :=
  if s + c < min p e ∧ 112 ≤ s + c then
    Ideal.exp (z (s + c) - sp (z (s + c)) + (∑ r : Fin 256, if c < r.val then lkt z p s e r.val else 0) + carry z p e)
  else 0

theorem wtt_eq (z : ℕ → EReal) (p : ℕ) {s e c : ℕ} (h : e ≤ s + 256) (he : e ≤ 16512) :
    wtt z p s e c = if s + c < e then wt z p (s + c) else 0 := by
  unfold wtt wt ok
  by_cases hc : s + c < e
  · rw [if_pos hc]
    refine if_congr (by omega) ?_ rfl
    rw [add_assoc, after_tile z p h he hc]
  · rw [if_neg hc, if_neg (by omega)]

/-- The tile moves the accumulated output from `e` to `s`. -/
theorem acc_tile (z : ℕ → EReal) (v : ℕ → EReal) (p : ℕ) {s e : ℕ} (hs : s ≤ e) (h : e ≤ s + 256) (he : e ≤ 16512) :
    acc z v p e + ∑ c : Fin 256, wtt z p s e c.val * v (s + c.val) = acc z v p s := by
  have e1 : ∀ c : Fin 256, wtt z p s e c.val * v (s + c.val)
      = if s + c.val < e then (fun k => wt z p k * v k) (s + c.val) else 0 := fun c => by
    rw [wtt_eq z p h he]
    dsimp only
    split
    · rfl
    · rw [zero_mul]
  rw [Finset.sum_congr rfl fun c _ => e1 c, sum_tile (fun k => wt z p k * v k) h, add_comm]
  exact Finset.sum_Ico_consecutive _ hs he

/-! ## The reference's spelling -/

/-- What a key leaves is no more than everything. -/
theorem lk_ne_top (z : ℕ → EReal) (p k : ℕ) : lk z p k ≠ ⊤ := by
  unfold lk
  split
  · generalize z k = x
    induction x using EReal.rec with
    | bot => simp [sp_bot]
    | top => simp [sp_top]
    | coe r => rw [sp_coe, ← EReal.coe_neg]; exact EReal.coe_ne_top _
  · exact EReal.zero_ne_top

theorem lkt_ne_top (z : ℕ → EReal) (p s e r : ℕ) : lkt z p s e r ≠ ⊤ := by
  rw [lkt_eq]
  split
  · exact lk_ne_top z p _
  · exact EReal.zero_ne_top

/-- A number and what is left of it after taking it away add up to it, unless it is `⊤`. -/
theorem add_rest {x : EReal} (h : x ≠ ⊤) : x + (x - x) = x := by
  induction x using EReal.rec with
  | bot => simp
  | top => exact absurd rfl h
  | coe r => rw [← EReal.coe_sub, sub_self, EReal.coe_zero, add_zero]

/-- The reference's exponent is the kernel's: it takes the key's own term from a sum that holds it. -/
theorem expo_eq (x R : EReal) : -sp (-x) + ((-sp x + R) - -sp x) = x - sp x + R := by
  induction x using EReal.rec with
  | bot => rw [EReal.neg_bot, sp_top, sp_bot]; simp
  | top => rw [EReal.neg_top, sp_top, sp_bot]; simp
  | coe r =>
    rw [← EReal.coe_neg, sp_neg, sp_coe]
    generalize (max r 0 + Real.log (1 + Real.exp (-|r|)) : ℝ) = s
    induction R using EReal.rec with
    | bot => simp [← EReal.coe_neg, ← EReal.coe_sub]
    | top => simp only [← EReal.coe_neg, ← EReal.coe_sub, EReal.coe_add_top, EReal.top_sub_coe]
    | coe t =>
      simp only [← EReal.coe_neg, ← EReal.coe_sub, ← EReal.coe_add]
      congr 1; ring

/-- The keys from `k` on are `k` and the keys after `k`. -/
theorem carry_eq (z : ℕ → EReal) (p : ℕ) {k : ℕ} (hk : k < 16512) :
    carry z p k = lk z p k + ∑ j ∈ Finset.Ioo k 16512, lk z p j := by
  have e3 : Finset.Ioo k 16512 = Finset.Ico (k + 1) 16512 := by
    ext j; rw [Finset.mem_Ioo, Finset.mem_Ico]; omega
  rw [e3, carry, Finset.sum_eq_sum_Ico_succ_bot hk]

end Cert.SbMath

end
-- ==== Proof.Val.Ops.lean ====
/-
  One trip's operations read at an index, with floats as extended reals.
-/
module

public import proofs.«01_k».proof.Proof.KI.Step
public import proofs.«01_k».proof.Proof.Val.Math
public import Idealize.ShloMosaic.Lib.Pipeline.ValueKit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL.Sem
open scoped BigOperators

/-- A trip's scores: queries against the tile's keys. -/
theorem score_at (I : Ins Ideal) (w : BitVec 32) (n : Fin 8) (r : Fin 128) (c : Fin 256) :
    score I w n (ValueIdx.ix2 r c) = ∑ d : Fin 64, I.q n (ValueIdx.ix2 r d) * tile I.xk n w (ValueIdx.ix3 (0 : Fin 1) c d) := by
  pointwise [score, k0_pay52]
  rfl

theorem pay60_at (x : FVec Ideal S128x256 .f32) (r : Fin 128) (c : Fin 256) :
    k0_pay60 x (ValueIdx.ix2 r c) = max (x (ValueIdx.ix2 r c)) 0 + Ideal.log (1 + Ideal.exp (0 - max (x (ValueIdx.ix2 r c)) (-x (ValueIdx.ix2 r c)))) := by
  pointwise [k0_pay60]
  rfl

/-- The two products with the suffix table: the rounded logs, and what rounding left of them. -/
theorem pay61_at (sfx : FVec Ideal S256x384 .bf16) (b : IVec S128x256 1) (x : FVec Ideal S128x256 .f32) (r : Fin 128) (c : Fin 384) :
    k0_pay61 sfx b x (ValueIdx.ix2 r c)
      = ∑ k : Fin 256, Scalar.select (b (ValueIdx.ix2 r k)) ((0 - k0_pay60 x (ValueIdx.ix2 r k)) * sfx (ValueIdx.ix2 k c)) 0
        + ∑ k : Fin 256, (Scalar.select (b (ValueIdx.ix2 r k)) (0 - k0_pay60 x (ValueIdx.ix2 r k)) 0
            - Scalar.select (b (ValueIdx.ix2 r k)) (0 - k0_pay60 x (ValueIdx.ix2 r k)) 0) * sfx (ValueIdx.ix2 k c) := by
  pointwise [k0_pay61]
  rfl

theorem pay83_at (c : FVec Ideal S128x128 .f32) (z sp : FVec Ideal S128x256 .f32) (s : FVec Ideal S128x384 .f32) (r : Fin 128) (k : Fin 256) :
    k0_pay83 c z sp s (ValueIdx.ix2 r k) = z (ValueIdx.ix2 r k) - sp (ValueIdx.ix2 r k) + s (ValueIdx.ix2 r (⟨k.val, by omega⟩ : Fin 384))
      + c (ValueIdx.ix2 r (⟨k.val % 128, Nat.mod_lt _ (by decide)⟩ : Fin 128)) := by
  pointwise [k0_pay83]
  have hk : ((ValueIdx.ix2 r k : S128x256.Idx) 1).val = k.val := rfl
  refine congrArg₂ (· + ·) rfl ?_
  split
  · next h =>
    rw [hk] at h
    exact congrArg c (congrArg (ValueIdx.ix2 r) (Fin.ext (by show k.val = k.val % 128; omega)))
  · next h =>
    rw [hk] at h
    exact congrArg c (congrArg (ValueIdx.ix2 r) (Fin.ext (by show k.val - 128 = k.val % 128; omega)))

theorem pay84_at (b : IVec S128x256 1) (x : FVec Ideal S128x256 .f32) (v : Vec Ideal S1x256x64 .bf16) (r : Fin 128) (d : Fin 64) :
    k0_pay84 b x v (ValueIdx.ix2 r d) = ∑ k : Fin 256,
      Scalar.select (b (ValueIdx.ix2 r k)) (Ideal.exp (x (ValueIdx.ix2 r k)) * v (ValueIdx.ix3 (0 : Fin 1) k d)) 0 := by
  pointwise [k0_pay84]
  rfl

theorem pay2_at (c : FVec Ideal S128x128 .f32) (s : FVec Ideal S128x384 .f32) (r : Fin 128) (l : Fin 128) :
    k0_pay2 c s (ValueIdx.ix2 r l) = c (ValueIdx.ix2 r l) + s (ValueIdx.ix2 r (⟨256 + l.val, by omega⟩ : Fin 384)) := by
  pointwise [k0_pay2]
  rfl

/-! ## The mask -/

theorem slt_ofNat {a b : ℕ} (ha : a < 2147483648) (hb : b < 2147483648) :
    BitVec.slt (BitVec.ofNat 32 a) (BitVec.ofNat 32 b) = decide (a < b) := by
  have e : ∀ {n : ℕ}, n < 2147483648 → (BitVec.ofNat 32 n).toInt = n := fun {n} h => by
    rw [BitVec.toInt_eq_toNat_of_lt (by rw [BitVec.toNat_ofNat]; omega), BitVec.toNat_ofNat]; omega
  rw [BitVec.slt, e ha, e hb]
  exact decide_eq_decide.mpr (by omega)

theorem minsi_ofNat {a b : ℕ} (ha : a < 2147483648) (hb : b < 2147483648) :
    IntOp.minsi (BitVec.ofNat 32 a) (BitVec.ofNat 32 b) = BitVec.ofNat 32 (min a b) := by
  unfold IntOp.minsi
  rw [slt_ofNat ha hb]
  by_cases h : a < b
  · simp only [h, decide_true, if_true, min_eq_left h.le]
  · simp only [h, decide_false, min_eq_right (not_lt.mp h)]; rfl

/-- The mask of the window starting at `x`: the keys before the row's own and before the window's end, padding left out. -/
theorem valid_at (I : Ins Ideal) (x : ℤ) (h1 : -256 < x) (h2 : x ≤ 16256) (r : Fin 128) (c : Fin 256) :
    valid I (BitVec.ofInt 32 x) (ValueIdx.ix2 r c)
      = BitVec.ofBool (decide (x.toNat + c.val < min (128 * (I.i 0).val + r.val) (x + 256).toNat ∧ 112 ≤ x.toNat + c.val)) := by
  have hi : (I.i 0).val < 129 := (I.i 0).isLt
  have hs : Scalar.maxsi (BitVec.ofInt 32 x) 0#32 = BitVec.ofNat 32 x.toNat := by
    rw [← start_eq x (by omega) h2, BitVec.ofNat_toNat, BitVec.setWidth_eq]
  have he : Scalar.addi (BitVec.ofInt 32 x) 256#32 = BitVec.ofNat 32 (x + 256).toNat := by
    rw [addi_ofInt, ← BitVec.ofInt_natCast, Int.toNat_of_nonneg (by omega)]
  have hq : IntOp.addi (Scalar.muli (BitVec.ofNat 32 (I.i 0).val) 128#32) (BitVec.ofNat 32 r.val)
      = BitVec.ofNat 32 (128 * (I.i 0).val + r.val) := by
    rw [BitVec.ofNat_add, BitVec.ofNat_mul, BitVec.mul_comm]; rfl
  have hk : IntOp.addi (BitVec.ofNat 32 x.toNat) (BitVec.ofNat 32 c.val) = BitVec.ofNat 32 (x.toNat + c.val) :=
    (BitVec.ofNat_add _ _).symm
  pointwise [valid, k0_pay51, k0_pay19]
  show IntOp.andi (IntOp.cmpi .slt (IntOp.addi (Scalar.maxsi (BitVec.ofInt 32 x) 0#32) (BitVec.ofNat 32 c.val))
        (IntOp.minsi (IntOp.addi (Scalar.muli (BitVec.ofNat 32 (I.i 0).val) 128#32) (BitVec.ofNat 32 r.val))
          (Scalar.addi (BitVec.ofInt 32 x) 256#32)))
      (IntOp.cmpi .sge (IntOp.addi (Scalar.maxsi (BitVec.ofInt 32 x) 0#32) (BitVec.ofNat 32 c.val)) (BitVec.ofNat 32 112)) = _
  rw [hs, he, hq, hk, minsi_ofNat (by omega) (by omega)]
  show BitVec.ofBool (BitVec.slt _ _) &&& BitVec.ofBool (BitVec.sle _ _) = _
  rw [slt_ofNat (by omega) (by omega), BitVec.sle_eq_not_slt, slt_ofNat (by omega) (by omega)]
  by_cases hA : x.toNat + c.val < min (128 * (I.i 0).val + r.val) (x + 256).toNat <;>
    by_cases hB : x.toNat + c.val < 112
  · simp [hA, hB, not_le.mpr hB]
  · simp [hA, hB, not_lt.mp hB]
  · simp [hA, hB]
  · simp [hA, hB]

/-! ## The output's normalisation -/

/-- A head's output over its root mean square, scaled by the gain. -/
def norm (a g : Fin 64 → EReal) (d : Fin 64) : EReal :=
  a d * Ideal.rsqrt (Ideal.div (∑ k, a k * a k) (Ideal.ofBits .f32 0x42800000#32) + Ideal.ofBits .f32 0x358637BD#32) * g d

theorem outB_at (s : St Ideal) (g : Vec Ideal S1x1x64 .f32) (b : Fin 2) (r : Fin 128) (j : Fin 256) :
    outB s g b (ValueIdx.ix3 (0 : Fin 1) r j)
      = norm (fun d => s.a (⟨4 * b.val + j.val / 64, by omega⟩ : Fin 8) (ValueIdx.ix2 r d))
          (fun d => g (ValueIdx.ix3 (0 : Fin 1) (0 : Fin 1) d)) (⟨j.val % 64, Nat.mod_lt _ (by decide)⟩ : Fin 64) := by
  have hj : ((ValueIdx.ix3 (0 : Fin 1) r j : S1x128x256.Idx) 2).val = j.val := rfl
  have key : ∀ (t : ℕ) (ht : 4 * b.val + t < 8) (hd : j.val - 64 * t < 64), j.val / 64 = t → ∀ (n : Fin 8) (d : Fin 64),
      n.val = 4 * b.val + t → d.val = j.val - 64 * t →
      norm (fun d => s.a n (ValueIdx.ix2 r d)) (fun d => g (ValueIdx.ix3 (0 : Fin 1) (0 : Fin 1) d)) d
      = norm (fun d => s.a (⟨4 * b.val + j.val / 64, by omega⟩ : Fin 8) (ValueIdx.ix2 r d))
          (fun d => g (ValueIdx.ix3 (0 : Fin 1) (0 : Fin 1) d)) (⟨j.val % 64, Nat.mod_lt _ (by decide)⟩ : Fin 64) := by
    intro t ht hd hjt n d hn hd'
    have e1 : n = (⟨4 * b.val + j.val / 64, by omega⟩ : Fin 8) := Fin.ext (by show n.val = 4 * b.val + j.val / 64; omega)
    have e2 : d = (⟨j.val % 64, Nat.mod_lt _ (by decide)⟩ : Fin 64) := Fin.ext (by show d.val = j.val % 64; omega)
    rw [e1, e2]
  have hjl := j.isLt
  pointwise [outB, k0_pay1, k0_pay45, k0_pay50]
  split
  · next h =>
    rw [hj] at h
    exact key 0 (by omega) (by omega) (by omega) (⟨4 * b.val, by omega⟩ : Fin 8) (⟨j.val, h⟩ : Fin 64) rfl rfl
  · next h =>
    rw [hj] at h
    split
    · next h' =>
      rw [hj] at h'
      exact key 1 (by omega) (by omega) (by omega) (⟨4 * b.val + 1, by omega⟩ : Fin 8) (⟨j.val - 64, h'⟩ : Fin 64) rfl rfl
    · next h' =>
      rw [hj] at h'
      split
      · next h2 =>
        rw [hj] at h2
        exact key 2 (by omega) (by omega) (by omega) (⟨4 * b.val + 2, by omega⟩ : Fin 8) (⟨j.val - 64 - 64, h2⟩ : Fin 64) rfl
          (by show j.val - 64 - 64 = _; omega)
      · next h2 =>
        rw [hj] at h2
        exact key 3 (by omega) (by omega) (by omega) (⟨4 * b.val + 3, by omega⟩ : Fin 8) (⟨j.val - 64 - 64 - 64, by omega⟩ : Fin 64) rfl
          (by show j.val - 64 - 64 - 64 = _; omega)

end Cert.KernelIdeal.Sb

end
-- ==== Proof.Val.Trip.lean ====
/-
  The loop's meaning: after the trips the accumulated output of a chain's row is `SbMath.att` of its scores and values.
-/
module

public import proofs.«01_k».proof.Proof.Val.Ops

@[expose] public section

set_option maxRecDepth 16384

noncomputable section

namespace Cert.KernelIdeal.Sb

open Cert.KernelIdeal Cert.KernelIdeal.Gen Cert.SbMath
open Idealize.ShloMosaic Idealize.ShloMosaic.TcCoe Idealize.ShloMosaic.Tactic
open Idealize.SL.Sem
open scoped BigOperators

/-- A chain's key (or value) entry at a position. -/
def entry (x : Vec Ideal S2x16512x256 .bf16) (n : Fin 8) (k : ℕ) (d : Fin 64) : EReal :=
  x (ValueIdx.ix3 (⟨n.val / 4, by omega⟩ : Fin 2) (⟨k % 16512, Nat.mod_lt _ (by decide)⟩ : Fin 16512)
    (⟨n.val % 4 * 64 + d.val, by omega⟩ : Fin 256))

/-- What the loop's inputs are: scores `z`, and the suffix table. -/
structure Good (I : Ins Ideal) (z : Fin 8 → Fin 128 → ℕ → EReal) : Prop where
  z : ∀ n r k, z n r k = ∑ d : Fin 64, I.q n (ValueIdx.ix2 r d) * entry I.xk n k d
  sfx : ∀ (k : Fin 256) (c : Fin 384), I.sfx (ValueIdx.ix2 k c) = if c.val < 256 → c.val < k.val then 1 else 0

/-- The carried values when the window starts at `x`: everything from `x + 256` on is seen. -/
structure Inv (I : Ins Ideal) (z : Fin 8 → Fin 128 → ℕ → EReal) (x : ℤ) (s : St Ideal) : Prop where
  w : s.w = BitVec.ofInt 32 x
  d : s.d = 0#1
  c : ∀ n r l, s.c n (ValueIdx.ix2 r l) = carry (z n r) (128 * (I.i 0).val + r.val) (x + 256).toNat
  a : ∀ n r d, s.a n (ValueIdx.ix2 r d) = acc (z n r) (fun k => entry I.xv n k d) (128 * (I.i 0).val + r.val) (x + 256).toNat

variable {I : Ins Ideal} {z : Fin 8 → Fin 128 → ℕ → EReal} {x : ℤ}

theorem tile_entry (y : Vec Ideal S2x16512x256 .bf16) (n : Fin 8) (h1 : -256 < x) (h2 : x ≤ 16256) (c : Fin 256) (d : Fin 64) :
    tile y n (BitVec.ofInt 32 x) (ValueIdx.ix3 (0 : Fin 1) c d) = entry y n (x.toNat + c.val) d := by
  have hs := start_eq x (by omega) h2
  unfold tile entry
  refine congrArg y ?_
  refine congrArg₂ (fun a b => ValueIdx.ix3 (⟨n.val / 4, by omega⟩ : Fin 2) a b) (Fin.ext ?_) rfl
  show ((Scalar.maxsi (BitVec.ofInt 32 x) 0#32).toNat + c.val) % 16512 = _
  rw [hs]

theorem score_val (hG : Good I z) (n : Fin 8) (h1 : -256 < x) (h2 : x ≤ 16256) (r : Fin 128) (c : Fin 256) :
    score I (BitVec.ofInt 32 x) n (ValueIdx.ix2 r c) = z n r (x.toNat + c.val) := by
  rw [score_at, hG.z]
  exact Finset.sum_congr rfl fun d _ => by rw [tile_entry I.xk n h1 h2]

theorem sp_val (hG : Good I z) (n : Fin 8) (h1 : -256 < x) (h2 : x ≤ 16256) (r : Fin 128) (c : Fin 256) :
    k0_pay60 (score I (BitVec.ofInt 32 x) n) (ValueIdx.ix2 r c) = sp (z n r (x.toNat + c.val)) := by
  rw [pay60_at, score_val hG n h1 h2]; rfl

theorem select_ofBool {α : Type} (p : Prop) [Decidable p] (a b : α) :
    Scalar.select (BitVec.ofBool (decide p)) a b = if p then a else b := by
  by_cases h : p <;> simp [h, Scalar.select]

/-- The sums of log-keep inside the window. -/
theorem sums_val (hG : Good I z) (n : Fin 8) (h1 : -256 < x) (h2 : x ≤ 16256) (r : Fin 128) (c : Fin 384) :
    sums I (BitVec.ofInt 32 x) n (ValueIdx.ix2 r c)
      = ∑ k : Fin 256, if c.val < 256 → c.val < k.val then
          lkt (z n r) (128 * (I.i 0).val + r.val) x.toNat (x + 256).toNat k.val else 0 := by
  unfold sums
  rw [pay61_at, ← Finset.sum_add_distrib]
  have e1 : ∀ k : Fin 256, (0 : EReal) - k0_pay60 (score I (BitVec.ofInt 32 x) n) (ValueIdx.ix2 r k)
      = -sp (z n r (x.toNat + k.val)) := fun k => by
    rw [sp_val hG n h1 h2, zero_sub]
  refine Finset.sum_congr rfl fun k _ => ?_
  have hl := lkt_ne_top (z n r) (128 * (I.i 0).val + r.val) x.toNat (x + 256).toNat k.val
  rw [e1, valid_at I x h1 h2, select_ofBool, select_ofBool, hG.sfx]
  change (if x.toNat + k.val < min (128 * (I.i 0).val + r.val) (x + 256).toNat ∧ 112 ≤ x.toNat + k.val then _ else _) + _ = _
  by_cases hc : c.val < 256 → c.val < k.val
  · rw [if_pos hc, if_pos hc, mul_one, mul_one]
    exact add_rest hl
  · rw [if_neg hc, if_neg hc, mul_zero, mul_zero, ite_self, add_zero]

/-- What a window adds to a chain's output. -/
theorem part_val (hG : Good I z) {s : St Ideal} (hI : Inv I z x s) (n : Fin 8) (h1 : -256 < x) (h2 : x ≤ 16256) (r : Fin 128) (d : Fin 64) :
    part I s n (ValueIdx.ix2 r d) = ∑ c : Fin 256,
      wtt (z n r) (128 * (I.i 0).val + r.val) x.toNat (x + 256).toNat c.val * entry I.xv n (x.toNat + c.val) d := by
  unfold part
  rw [pay84_at, hI.w]
  refine Finset.sum_congr rfl fun c _ => ?_
  rw [valid_at I x h1 h2, select_ofBool, tile_entry I.xv n h1 h2, pay83_at, score_val hG n h1 h2, sp_val hG n h1 h2,
    sums_val hG n h1 h2, hI.c]
  unfold wtt
  have hc : ∀ k : Fin 256, ((⟨c.val, by omega⟩ : Fin 384).val < 256 → (⟨c.val, by omega⟩ : Fin 384).val < k.val) ↔ c.val < k.val :=
    fun k => ⟨fun h => h c.isLt, fun h _ => h⟩
  split
  · refine congrArg (· * _) ?_
    simp only [hc]
  · rw [zero_mul]

/-- Nothing lies below the threshold where it stands for minus infinity. -/
theorem not_below_bot (y : EReal) : Ideal.cmp .olt y (⊥ : EReal) = 0#1 := by simp [Ideal.cmp]

/-- One trip keeps the invariant, the window one further back. -/
theorem step_inv (hG : Good I z) {s : St Ideal} (hI : Inv I z x s) (h1 : -256 < x) (h2 : x ≤ 16256) : Inv I z (x - 256) (step I s) where
  w := by show Scalar.subi s.w 256#32 = _; rw [hI.w, subi_ofInt]
  d := by unfold step; dsimp only; rw [Ideal.scalar_cmpf_def]; exact not_below_bot _
  c n r l := by
    show k0_pay2 (s.c n) (sums I s.w n) (ValueIdx.ix2 r l) = _
    rw [pay2_at, hI.w, hI.c, sums_val hG n h1 h2]
    have hc : ∀ k : Fin 256, ((⟨256 + l.val, by omega⟩ : Fin 384).val < 256 → (⟨256 + l.val, by omega⟩ : Fin 384).val < k.val) ↔ True :=
      fun k => iff_true_intro fun h => absurd h (by show ¬ 256 + l.val < 256; omega)
    simp only [hc, if_true]
    rw [carry_tile _ _ (by omega) (by omega) (by omega)]
    rw [show x - 256 + 256 = x by omega]
  a n r d := by
    show s.a n (ValueIdx.ix2 r d) + part I s n (ValueIdx.ix2 r d) = _
    rw [part_val hG hI n h1 h2, hI.a]
    rw [show x - 256 + 256 = x by omega]
    exact acc_tile (z n r) (fun k => entry I.xv n k d) _ (by omega) (by omega) (by omega)

/-- The test at an invariant's state. -/
theorem go_iff {s : St Ideal} (hI : Inv I z x s) (h1 : -384 ≤ x) (h2 : x ≤ 16256) : go s ↔ -256 < x := by
  unfold go
  rw [hI.w, hI.d, ← sgt_iff x h1 h2]
  generalize Scalar.cmpi .sgt (Scalar.addi (BitVec.ofInt 32 x) 256#32) 0#32 = b
  revert b; decide

/-- The trips end with every key seen. -/
theorem run_inv (hG : Good I z) : ∀ (k : ℕ) (x : ℤ) (s : St Ideal), Inv I z x s → -384 ≤ x → x ≤ 16256 → 128 ∣ x → x ≤ 256 * (k : ℤ) - 256 →
    ∃ x' ≤ -256, Inv I z x' (run I k s)
  | 0, x, s, hI, h1, h2, h3, h4 => ⟨x, by omega, hI⟩
  | k + 1, x, s, hI, h1, h2, h3, h4 => by
    by_cases hg : go s
    · have hx := (go_iff hI h1 h2).mp hg
      rw [run, if_pos hg]
      exact run_inv hG k (x - 256) _ (step_inv hG hI hx h2) (by omega) (by omega) (by omega) (by push_cast at h4; omega)
    · rw [run, if_neg hg]
      exact ⟨x, by have := mt (go_iff hI h1 h2).mpr hg; omega, hI⟩

/-- The carried values on entry satisfy the invariant. -/
theorem st0_inv (I : Ins Ideal) (z : Fin 8 → Fin 128 → ℕ → EReal) : Inv I z (((I.i 0).val : ℤ) * 128 - 128) (st0 I.i) where
  w := by
    have hi : (I.i 0).val < 129 := (I.i 0).isLt
    show (BitVec.ofNat 32 (I.i 0).val + 1#32) * 128#32 - 256#32 = _
    have h1 : BitVec.ofNat 32 (I.i 0).val = BitVec.ofInt 32 ((I.i 0).val : ℤ) := by simp
    rw [h1, show (1#32 : BitVec 32) = BitVec.ofInt 32 1 from rfl, show (128#32 : BitVec 32) = BitVec.ofInt 32 128 from rfl,
      ← BitVec.ofInt_add, ← BitVec.ofInt_mul]
    show Scalar.subi _ 256#32 = _
    rw [subi_ofInt]
    congr 1
    omega
  d := rfl
  c n r l := by
    rw [carry_start _ (by omega)]
    show Ideal.ofBits .f32 0x00000000#32 = _
    simp
  a n r d := by
    rw [acc_start _ _ (by omega)]
    show Ideal.ofBits .f32 0x00000000#32 = _
    simp

/-- **The loop**: a chain's row ends with every key weighted. -/
theorem run_val (hG : Good I z) (n : Fin 8) (r : Fin 128) (d : Fin 64) :
    (run I 65 (st0 I.i)).a n (ValueIdx.ix2 r d) = att (z n r) (fun k => entry I.xv n k d) (128 * (I.i 0).val + r.val) := by
  have hi : (I.i 0).val < 129 := (I.i 0).isLt
  obtain ⟨x', hx, hI⟩ := run_inv hG 65 _ _ (st0_inv I z) (by omega) (by omega) (by omega) (by push_cast; omega)
  rw [hI.a, show (x' + 256).toNat = 0 by omega]
  rfl

end Cert.KernelIdeal.Sb

end
-- ==== Proof.Val.Final.lean ====
/-
  The result's array after the run: at every position and head, the stick-breaking attention of that query, normalised.
-/
module

public import proofs.«01_k».proof.Proof.Val.Trip
public import proofs.«01_k».proof.Proof.KI.Frame
public import Idealize.ShloMosaic.Lib.Claim

@[expose] public section

set_option maxRecDepth 16384

noncomputable section

namespace Cert.KernelIdeal.Sb

open Cert.KernelIdeal Cert.KernelIdeal.Gen Cert.SbMath
open Idealize.ShloMosaic Idealize.ShloMosaic.TcCoe Idealize.ShloMosaic.Tactic
open Idealize.SL.Sem
open Idealize.ShloMosaic.Pipeline (Dat)
open scoped BigOperators

/-- The score of the query at `p` against the key at `k`. -/
def zr (x0 x1 : Vec Ideal S2x16512x256 .bf16) (n : Fin 8) (p k : ℕ) : EReal :=
  ∑ d : Fin 64, entry x0 n p d * entry x1 n k d

/-- The value of head `n`'s attention at position `p`. -/
def head (x0 x1 x2 : Vec Ideal S2x16512x256 .bf16) (n : Fin 8) (p : ℕ) (d : Fin 64) : EReal :=
  att (zr x0 x1 n p) (fun k => entry x2 n k d) p

/-- The result as a function of the arguments. -/
def G (x0 x1 x2 : Vec Ideal S2x16512x256 .bf16) (x3 : Vec Ideal S2x64 .f32) : Vec Ideal S2x16512x256 .bf16 := fun y =>
  norm (head x0 x1 x2 (⟨4 * (y 0).val + (y 2).val / 64, by
      have h0 : (y 0).val < 2 := (y 0).isLt
      have h2 : (y 2).val < 256 := (y 2).isLt
      omega⟩ : Fin 8) (y 1).val)
    (fun d => x3 (ValueIdx.ix2 (0 : Fin 2) d)) (⟨(y 2).val % 64, Nat.mod_lt _ (by decide)⟩ : Fin 64)

/-- What a point leaves, by sequence, row and column. -/
theorem out_at (i : grid0.Coords) (x0 : Vec Ideal S2x128x256 .bf16) (x1 x2 : Vec Ideal S2x16512x256 .bf16) (x3 : Vec Ideal S256x384 .bf16)
    (x4 : Vec Ideal S1x1x64 .f32) (y : S2x128x256.Idx) :
    out i x0 x1 x2 x3 x4 y = outB (fin i x0 x1 x2 x3) x4 (⟨(y 0).val, (y 0).isLt⟩ : Fin 2)
      (ValueIdx.ix3 (0 : Fin 1) (⟨(y 1).val, (y 1).isLt⟩ : Fin 128) (⟨(y 2).val, (y 2).isLt⟩ : Fin 256)) := by
  unfold out
  rw [View.read_writes_junk_eq_canon]
  unfold pieces
  canon_tiles x h
  all_goals
    congr 1
    · first
        | exact Fin.ext (by show (1 : ℕ) = (y 0).val; omega)
        | exact Fin.ext (by show (0 : ℕ) = (y 0).val; omega)
    · funext a
      fin_cases a
      · exact Fin.ext (by show (x 0).val = 0; omega)
      · exact Fin.ext h1.symm
      · exact Fin.ext h2.symm

variable (m : (ℓ : Loc nD τ sig) → Buf (Elt Ideal) ℓ)

theorem idx : ∀ t : Fin (cfg0 (F := Ideal)).N, win0_0.index t = ![0, (grid0.coords t 0).val, 0] ∧ win0_1.index t = ![0, 0, 0]
    ∧ win0_2.index t = ![0, 0, 0] ∧ win0_3.index t = ![0, 0] ∧ win0_4.index t = ![0, 0, 0] ∧ win0_5.index t = ![0, (grid0.coords t 0).val, 0] :=
  (by decide +kernel : ∀ t : Fin grid0.N, _)

/-- The suffix table the host computes. -/
theorem table (c : Dev nD) (k : Fin 256) (l : Fin 384) :
    (V m c main_v9 : S256x384.Idx → EReal) (ValueIdx.ix2 k l) = if l.val < 256 → l.val < k.val then (1 : EReal) else 0 := by
  entry_read
  pointwise
  have hk := k.isLt
  have hl := l.isLt
  show (((if h : l.val < 256 then IntOp.cmpi .sgt (BitVec.ofNat 32 k.val) (BitVec.ofNat 32 l.val) else 1#1 : BitVec 1).toNat : ℝ) : EReal) = _
  simp only [IntOp.cmpi, slt_ofNat (show l.val < 2147483648 by omega) (show k.val < 2147483648 by omega)]
  by_cases h : l.val < 256
  · by_cases h' : l.val < k.val <;> simp [h, h']
  · simp [h]

/-- The gain's row. -/
theorem gain (c : Dev nD) (l : Fin 2) (d : Fin 64) :
    (V m c main_v0 : Vec Ideal S2x1x64 .f32) (ValueIdx.ix3 l (0 : Fin 1) d) = (m ((c : Thread nD τ).loc main_arg3) : Vec Ideal S2x64 .f32) (ValueIdx.ix2 l d) := by
  entry_read
  pointwise
  rfl

theorem blk0 (c : Dev nD) (t : Fin (cfg0 (F := Ideal)).N) (b : Fin 2) (r : Fin 128) (j : Fin 256) :
    (iblk m c 0 t : Vec Ideal S2x128x256 .bf16) (ValueIdx.ix3 b r j)
      = (m ((c : Thread nD τ).loc main_arg0) : Vec Ideal S2x16512x256 .bf16)
        (ValueIdx.ix3 b (⟨128 * (grid0.coords t 0).val + r.val, by have h : (grid0.coords t 0).val < 129 := (grid0.coords t 0).isLt; omega⟩ : Fin 16512) j) := by
  rw [← V_arg m c main_arg0 (by simp)]
  blk_ext [iblk, idx t]
  all_goals
    show (grid0.coords t 0).val * 128 + r.val = 128 * (grid0.coords t 0).val + r.val
    omega

theorem blk1 (c : Dev nD) (t : Fin (cfg0 (F := Ideal)).N) : (iblk m c 1 t : Vec Ideal S2x16512x256 .bf16) = m ((c : Thread nD τ).loc main_arg1) := by
  rw [← V_arg m c main_arg1 (by simp)]
  funext y
  blk_ext [iblk, idx t]

theorem blk2 (c : Dev nD) (t : Fin (cfg0 (F := Ideal)).N) : (iblk m c 2 t : Vec Ideal S2x16512x256 .bf16) = m ((c : Thread nD τ).loc main_arg2) := by
  rw [← V_arg m c main_arg2 (by simp)]
  funext y
  blk_ext [iblk, idx t]

theorem blk3 (c : Dev nD) (t : Fin (cfg0 (F := Ideal)).N) (k : Fin 256) (l : Fin 384) :
    (iblk m c 3 t : Vec Ideal S256x384 .bf16) (ValueIdx.ix2 k l) = if l.val < 256 → l.val < k.val then (1 : EReal) else 0 := by
  rw [← table m c k l]
  blk_ext [iblk, idx t]

theorem blk4 (c : Dev nD) (t : Fin (cfg0 (F := Ideal)).N) (d : Fin 64) :
    (iblk m c 4 t : Vec Ideal S1x1x64 .f32) (ValueIdx.ix3 (0 : Fin 1) (0 : Fin 1) d)
      = (m ((c : Thread nD τ).loc main_arg3) : Vec Ideal S2x64 .f32) (ValueIdx.ix2 (0 : Fin 2) d) := by
  rw [← gain m c 0 d]
  blk_ext [iblk, idx t]

theorem query_at (x0 : Vec Ideal S2x128x256 .bf16) (n : Fin 8) (r : Fin 128) (d : Fin 64) :
    (k0_pay20 (qTile x0 n) : Vec Ideal S128x64 .bf16) (ValueIdx.ix2 r d)
      = x0 (ValueIdx.ix3 (⟨n.val / 4, by omega⟩ : Fin 2) r (⟨n.val % 4 * 64 + d.val, by omega⟩ : Fin 256)) := by
  pointwise [k0_pay20]
  rfl

theorem table_at (x3 : Vec Ideal S256x384 .bf16) (k : Fin 256) (l : Fin 384) :
    (k0_pay28 x3 : Vec Ideal S256x384 .bf16) (ValueIdx.ix2 k l) = x3 (ValueIdx.ix2 k l) := by
  pointwise [k0_pay28]

/-- The inputs of a point's loop are good. -/
theorem good (c : Dev nD) (t : Fin (cfg0 (F := Ideal)).N) :
    Good (ins (grid0.coords t) (iblk m c 0 t) (iblk m c 1 t) (iblk m c 2 t) (iblk m c 3 t))
      (fun n r k => zr (m ((c : Thread nD τ).loc main_arg0)) (m ((c : Thread nD τ).loc main_arg1)) n (128 * (grid0.coords t 0).val + r.val) k) where
  z n r k := by
    have ht : (grid0.coords t 0).val < 129 := (grid0.coords t 0).isLt
    unfold zr
    refine Finset.sum_congr rfl fun d _ => ?_
    unfold ins
    dsimp only
    rw [blk1, query_at, blk0]
    unfold entry
    congr 3
    exact Fin.ext (Nat.mod_eq_of_lt (by omega))
  sfx k l := by
    unfold ins
    dsimp only
    rw [table_at, blk3]

/-- What a point leaves is its block of `G`. -/
theorem point (c : Dev nD) (t : Fin (cfg0 (F := Ideal)).N) (y : S2x128x256.Idx) (j : S2x16512x256.Idx)
    (h0 : (j 0).val = (y 0).val) (h1 : (j 1).val = 128 * (grid0.coords t 0).val + (y 1).val) (h2 : (j 2).val = (y 2).val) :
    outsAt m c t y = G (m ((c : Thread nD τ).loc main_arg0)) (m ((c : Thread nD τ).loc main_arg1)) (m ((c : Thread nD τ).loc main_arg2))
      (m ((c : Thread nD τ).loc main_arg3)) j := by
  unfold outsAt
  rw [out_at, outB_at]
  unfold fin G head
  have e : ∀ n d, (run (ins (grid0.coords t) (iblk m c 0 t) (iblk m c 1 t) (iblk m c 2 t) (iblk m c 3 t)) 65 (st0 (grid0.coords t))).a n
      (ValueIdx.ix2 (⟨(y 1).val, (y 1).isLt⟩ : Fin 128) d)
      = att (zr (m ((c : Thread nD τ).loc main_arg0)) (m ((c : Thread nD τ).loc main_arg1)) n (128 * (grid0.coords t 0).val + (y 1).val))
          (fun k => entry (m ((c : Thread nD τ).loc main_arg2)) n k d) (128 * (grid0.coords t 0).val + (y 1).val) :=
    fun n d => (run_val (good m c t) n ⟨(y 1).val, (y 1).isLt⟩ d).trans (by unfold ins; dsimp only; rw [blk2])
  simp only [e, blk4, h0, h1, h2]

/-- **The result's array** after the run. -/
theorem final (c : Dev nD) : (dats m 0 c).arrAt 5 (cfg0 (F := Ideal)).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after_5]
  refine point m c t _ _ ?_ ?_ ?_
  all_goals (blk_simp [idx t] <;> try omega)

end Cert.KernelIdeal.Sb

end
-- ==== Proof.Val.Ref.lean ====
/-
  The reference's result: at every position and head it is the same attention, normalised, as the kernel's.
-/
module

public import proofs.«01_k».proof.Proof.Val.Final
public import proofs.«01_k».proof.Proof.Gen.ReferenceIdeal.Read

@[expose] public section

set_option maxRecDepth 16384

noncomputable section

namespace Cert.ReferenceIdeal.Sb

open Cert.ReferenceIdeal Cert.ReferenceIdeal.Gen Cert.ReferenceIdeal.Read Cert.SbMath
open Cert.KernelIdeal.Sb (entry zr head norm G select_ofBool)
open Idealize.ShloMosaic Idealize.ShloMosaic.TcCoe Idealize.ShloMosaic.Tactic
open Idealize.SL.Sem
open scoped BigOperators

/-- A left fold of a sum is the initial value and the sum of the list. -/
theorem foldl_add {ι : Type*} (f : ι → EReal) : ∀ (l : List ι) (a : EReal), l.foldl (fun r n => r + f n) a = a + (l.map f).sum
  | [], a => by simp
  | b :: l, a => by rw [List.foldl_cons, foldl_add f l, List.map_cons, List.sum_cons, add_assoc]

/-- A sum over a shape's positions is the sum over its multi-indices. -/
theorem sum_points {s : Shape} (g : s.Idx → EReal) : ∑ n : Fin s.numel, g (s.rowMajor.symm n) = ∑ w, g w := Equiv.sum_comp s.rowMajor.symm g

/-- A sum over a row's multi-indices is the sum along the row. -/
theorem sum_row {n : ℕ} (g : ℕ → EReal) : ∑ w : (⟨4, ![1, 1, 1, n]⟩ : Shape).Idx, g (w 3).val = ∑ j : Fin n, g j.val := by
  rw [Idealize.ShloMosaic.sum_idx4]
  simp

/-- A row's entries counted from `k`, nothing past its end. -/
def from_ (f : ℕ → EReal) (k n i : ℕ) : EReal := if k + i < n then f (k + i) else 0

/-- The entries of a row from `k` on, counted from `k`. -/
theorem sum_from (f : ℕ → EReal) {k n : ℕ} (hk : k ≤ n) :
    ∑ j : Fin n, from_ f k n j.val = ∑ j ∈ Finset.Ico k n, f j := by
  refine (Fin.sum_univ_eq_sum_range (from_ f k n) n).trans ?_
  unfold from_
  rw [← Finset.sum_filter, Finset.sum_Ico_eq_sum_range]
  refine Finset.sum_congr (Finset.ext fun i => ?_) fun _ _ => rfl
  rw [Finset.mem_filter, Finset.mem_range, Finset.mem_range]
  omega

/-- The reference's running sum from the last key back: at `k`, the sum over the keys from `k` on. -/
theorem window_sum {A B C N M : ℕ} (x : FVec Ideal ⟨4, ![A, B, C, N]⟩ .f32) (init : S_.Idx → EReal) (h0 : ∀ i, init i = 0)
    (h : (⟨4, ![A, B, C, N]⟩ : Shape).ReduceWindows ![1, 1, 1, N] ![1, 1, 1, 1] ![0, 0, 0, 0] ![0, 0, 0, M] ⟨4, ![A, B, C, N]⟩) (hu : 0 < S_.numel)
    (f : ℕ → EReal) (b : Fin A) (hd : Fin B) (p : Fin C) (k : Fin N) (hx : ∀ j : Fin N, x (ValueIdx.ix4 b hd p j) = f j.val) :
    Host.reduceWindowAdd ![1, 1, 1, N] ![1, 1, 1, 1] ![0, 0, 0, 0] ![0, 0, 0, M] x init h hu (ValueIdx.ix4 b hd p k)
      = ∑ j ∈ Finset.Ico k.val N, f j := by
  have hk := k.isLt
  unfold Host.reduceWindowAdd
  rw [Ideal.hostReduceWindowAdd_def, h0]
  unfold Ideal.hostReduceWindowAdd Host.reduceWindow
  dsimp only
  rw [foldl_add, zero_add, ← List.ofFn_eq_map, List.sum_ofFn]
  refine (Finset.sum_congr (g := fun n => from_ f k.val N ((⟨4, ![1, 1, 1, N]⟩ : Shape).rowMajor.symm n 3).val) rfl fun n _ => ?_).trans ?_
  · have w0 : ((⟨4, ![1, 1, 1, N]⟩ : Shape).rowMajor.symm n 0).val = 0 := by have : ((⟨4, ![1, 1, 1, N]⟩ : Shape).rowMajor.symm n 0).val < 1 := ((⟨4, ![1, 1, 1, N]⟩ : Shape).rowMajor.symm n 0).isLt; omega
    have w1 : ((⟨4, ![1, 1, 1, N]⟩ : Shape).rowMajor.symm n 1).val = 0 := by have : ((⟨4, ![1, 1, 1, N]⟩ : Shape).rowMajor.symm n 1).val < 1 := ((⟨4, ![1, 1, 1, N]⟩ : Shape).rowMajor.symm n 1).isLt; omega
    have w2 : ((⟨4, ![1, 1, 1, N]⟩ : Shape).rowMajor.symm n 2).val = 0 := by have : ((⟨4, ![1, 1, 1, N]⟩ : Shape).rowMajor.symm n 2).val < 1 := ((⟨4, ![1, 1, 1, N]⟩ : Shape).rowMajor.symm n 2).isLt; omega
    unfold from_
    by_cases hn : k.val + ((⟨4, ![1, 1, 1, N]⟩ : Shape).rowMajor.symm n 3).val < N
    · rw [if_pos hn, dif_pos (fun a => by
        match a with
        | ⟨0, _⟩ => show 0 ≤ b.val * 1 + ((⟨4, ![1, 1, 1, N]⟩ : Shape).rowMajor.symm n 0).val ∧ b.val * 1 + ((⟨4, ![1, 1, 1, N]⟩ : Shape).rowMajor.symm n 0).val - 0 < A; have := b.isLt; omega
        | ⟨1, _⟩ => show 0 ≤ hd.val * 1 + ((⟨4, ![1, 1, 1, N]⟩ : Shape).rowMajor.symm n 1).val ∧ hd.val * 1 + ((⟨4, ![1, 1, 1, N]⟩ : Shape).rowMajor.symm n 1).val - 0 < B; have := hd.isLt; omega
        | ⟨2, _⟩ => show 0 ≤ p.val * 1 + ((⟨4, ![1, 1, 1, N]⟩ : Shape).rowMajor.symm n 2).val ∧ p.val * 1 + ((⟨4, ![1, 1, 1, N]⟩ : Shape).rowMajor.symm n 2).val - 0 < C; have := p.isLt; omega
        | ⟨3, _⟩ => show 0 ≤ k.val * 1 + ((⟨4, ![1, 1, 1, N]⟩ : Shape).rowMajor.symm n 3).val ∧ k.val * 1 + ((⟨4, ![1, 1, 1, N]⟩ : Shape).rowMajor.symm n 3).val - 0 < N; omega)]
      rw [← hx ⟨k.val + ((⟨4, ![1, 1, 1, N]⟩ : Shape).rowMajor.symm n 3).val, hn⟩]
      refine congrArg x (funext fun a => Fin.ext ?_)
      match a with
      | ⟨0, _⟩ => show b.val * 1 + ((⟨4, ![1, 1, 1, N]⟩ : Shape).rowMajor.symm n 0).val - 0 = b.val; omega
      | ⟨1, _⟩ => show hd.val * 1 + ((⟨4, ![1, 1, 1, N]⟩ : Shape).rowMajor.symm n 1).val - 0 = hd.val; omega
      | ⟨2, _⟩ => show p.val * 1 + ((⟨4, ![1, 1, 1, N]⟩ : Shape).rowMajor.symm n 2).val - 0 = p.val; omega
      | ⟨3, _⟩ => show k.val * 1 + ((⟨4, ![1, 1, 1, N]⟩ : Shape).rowMajor.symm n 3).val - 0 = k.val + ((⟨4, ![1, 1, 1, N]⟩ : Shape).rowMajor.symm n 3).val; omega
    · rw [if_neg hn, dif_neg]
      intro hin
      have := (hin 3).2
      change k.val * 1 + ((⟨4, ![1, 1, 1, N]⟩ : Shape).rowMajor.symm n 3).val - 0 < N at this
      omega
  · exact ((sum_points (s := ⟨4, ![1, 1, 1, N]⟩) fun w => from_ f k.val N (w 3).val).trans (sum_row (from_ f k.val N))).trans (sum_from f hk.le)

variable (x0 x1 x2 : Vec Ideal S2x16512x256 .bf16) (x3 : Vec Ideal S2x64 .f32)

/-- The heads' entries. -/
theorem q_at (b : Fin 2) (h : Fin 4) (p : Fin 16512) (d : Fin 64) :
    val_main_v2 (F := Ideal) x0 (ValueIdx.ix4 b h p d) = entry x0 (⟨4 * b.val + h.val, by omega⟩ : Fin 8) p.val d := by
  rw [val_main_v2_apply, val_main_v1_apply, val_main_v0_apply]
  refine congrArg x0 (funext fun a => Fin.ext ?_)
  match a with
  | ⟨0, _⟩ => show (((b.val * 16512 + p.val) * 4 + h.val) * 64 + d.val) / 4227072 = (4 * b.val + h.val) / 4; omega
  | ⟨1, _⟩ => show (((b.val * 16512 + p.val) * 4 + h.val) * 64 + d.val) / 256 % 16512 = p.val % 16512; omega
  | ⟨2, _⟩ => show (((b.val * 16512 + p.val) * 4 + h.val) * 64 + d.val) % 256 = (4 * b.val + h.val) % 4 * 64 + d.val; omega

theorem k_eq : val_main_v5 (F := Ideal) x0 = val_main_v2 (F := Ideal) x0 := rfl
theorem v_eq : val_main_v8 (F := Ideal) x0 = val_main_v2 (F := Ideal) x0 := rfl

variable {x0 x1}

/-- The scores. -/
theorem z_at (b : Fin 2) (h : Fin 4) (p k : Fin 16512) :
    val_main_v10 (F := Ideal) x0 x1 (ValueIdx.ix4 b h p k) = zr x0 x1 (⟨4 * b.val + h.val, by omega⟩ : Fin 8) p.val k.val := by
  rw [val_main_v10_apply]
  unfold zr
  refine Finset.sum_congr rfl fun d _ => ?_
  have el : lidx_main_v10 (ValueIdx.ix4 b h p k) d = ValueIdx.ix4 b h p d := by
    funext a; match a with | ⟨0, _⟩ => rfl | ⟨1, _⟩ => rfl | ⟨2, _⟩ => rfl | ⟨3, _⟩ => rfl
  have er : ridx_main_v10 (ValueIdx.ix4 b h p k) d = ValueIdx.ix4 b h k d := by
    funext a; match a with | ⟨0, _⟩ => rfl | ⟨1, _⟩ => rfl | ⟨2, _⟩ => rfl | ⟨3, _⟩ => rfl
  rw [el, er, k_eq, q_at, q_at]

/-- The mask. -/
theorem mask_at (p k : Fin 16512) :
    val_main_v20 (F := Ideal) (ValueIdx.ix2 p k) = BitVec.ofBool (decide (ok p.val k.val)) := by
  rw [val_main_v20_apply, val_main_v15_apply, val_main_v13_apply, val_main_v11_apply, val_main_v9_apply, val_main_v14_apply, val_main_v12_apply,
    val_main_v9_apply, val_main_v19_apply, val_main_v18_apply, val_main_v16_apply, val_main_v17_apply, val_main_c_apply, val_main_v9_apply]
  have hp := p.isLt
  have hk := k.isLt
  show IntOp.andi (BitVec.ofBool (BitVec.slt (BitVec.ofNat 32 k.val) (BitVec.ofNat 32 p.val))) (BitVec.ofBool (BitVec.sle (BitVec.ofNat 32 112) (BitVec.ofNat 32 k.val))) = _
  rw [Cert.KernelIdeal.Sb.slt_ofNat (by omega) (by omega), BitVec.sle_eq_not_slt, Cert.KernelIdeal.Sb.slt_ofNat (by omega) (by omega)]
  unfold ok
  by_cases h1 : k.val < p.val <;> by_cases h2 : k.val < 112 <;> simp [h1, h2, IntOp.andi, not_le.mpr, not_lt.mp]

/-- The logarithm of the sigmoid, as the reference spells it. -/
theorem logsig (z : EReal) :
    -(Scalar.select (Ideal.cmp .une (z - 0) (z - 0)) (z + 0) (max z 0 + Ideal.log (1 + Ideal.exp (-(max (z - 0) (-(z - 0)))))) : EReal) = -sp z := by
  have hc : Ideal.cmp .une (z - 0) (z - 0) = 0#1 := by simp [Ideal.cmp]
  rw [hc, sub_zero, ← zero_sub (max z (-z))]
  rfl

theorem zero_word : Ideal.ofBits .f32 0x00000000#32 = 0 := by simp

/-- The logarithm of what a key leaves, where it is attended. -/
theorem keep_at (b : Fin 2) (h : Fin 4) (p k : Fin 16512) :
    val_main_v22 (F := Ideal) x0 x1 (ValueIdx.ix4 b h p k) = -sp (zr x0 x1 (⟨4 * b.val + h.val, by omega⟩ : Fin 8) p.val k.val) := by
  simp only [val_main_v22_apply, val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply, val_main_call0_v0_apply, val_main_v21_apply, z_at]
  rw [← logsig]
  simp only [Ideal.hostNegf_def, Ideal.negf_def, Ideal.absf_def, Ideal.cmpf_def, Ideal.subf_def, Ideal.addf_def, Ideal.maximumf_def, Ideal.hostAbsf_def, neg_neg,
    Ideal.ofBits_def, zero_word]
  rfl

/-- The logarithm of a key's own share. -/
theorem share_at (b : Fin 2) (h : Fin 4) (p k : Fin 16512) :
    val_main_v26 (F := Ideal) x0 x1 (ValueIdx.ix4 b h p k) = -sp (-zr x0 x1 (⟨4 * b.val + h.val, by omega⟩ : Fin 8) p.val k.val) := by
  simp only [val_main_v26_apply, val_main_call3_v1_apply, val_main_call3_call0_v11_apply, val_main_call3_call0_v10_apply, val_main_call3_call0_v9_apply,
    val_main_call3_call0_v8_apply, val_main_call3_call0_v7_apply, val_main_call3_call0_v6_apply, val_main_call3_call0_v5_apply,
    val_main_call3_call0_v4_apply, val_main_call3_call0_v3_apply, val_main_call3_call0_v2_apply, val_main_call3_call0_v1_apply,
    val_main_call3_call0_v0_apply, val_main_call3_call0_cst_apply, val_main_call3_v0_apply, z_at]
  rw [← logsig]
  simp only [Ideal.hostNegf_def, Ideal.negf_def, Ideal.absf_def, Ideal.cmpf_def, Ideal.subf_def, Ideal.addf_def, Ideal.maximumf_def, Ideal.hostAbsf_def,
    Ideal.ofBits_def, zero_word]
  rfl

/-- The logarithm of what a key leaves. -/
theorem lk_at (b : Fin 2) (h : Fin 4) (p k : Fin 16512) :
    val_main_v23 (F := Ideal) x0 x1 (ValueIdx.ix4 b h p k) = lk (zr x0 x1 (⟨4 * b.val + h.val, by omega⟩ : Fin 8) p.val) p.val k.val := by
  have ei : idx_main_call1_v1 (ValueIdx.ix4 b h p k) = ValueIdx.ix2 p k := by funext a; match a with | ⟨0, _⟩ => rfl | ⟨1, _⟩ => rfl
  rw [val_main_v23_apply, keep_at, val_main_call1_v1_apply, val_main_call1_v2_apply, val_main_call1_v0_apply, val_main_cst_apply, ei, mask_at, select_ofBool]
  unfold lk
  split
  · rfl
  · simp

/-- The running sum over the keys from `k` on, less key `k`. -/
theorem after_at (b : Fin 2) (h : Fin 4) (p k : Fin 16512) :
    val_main_v25 (F := Ideal) x0 x1 (ValueIdx.ix4 b h p k) = carry (zr x0 x1 (⟨4 * b.val + h.val, by omega⟩ : Fin 8) p.val) p.val k.val - lk (zr x0 x1 (⟨4 * b.val + h.val, by omega⟩ : Fin 8) p.val) p.val k.val := by
  have e24 : val_main_v24 (F := Ideal) x0 x1 (ValueIdx.ix4 b h p k) = _ :=
    window_sum (val_main_v23 (F := Ideal) x0 x1) (val_main_call2_v0 (F := Ideal))
      (fun i => by rw [val_main_call2_v0_apply, val_main_call2_cst_apply]; simp) _ _ (fun j => lk (zr x0 x1 (⟨4 * b.val + h.val, by omega⟩ : Fin 8) p.val) p.val j) b h p k
      (fun j => lk_at b h p j)
  rw [val_main_v25_apply, e24, lk_at]
  rfl

/-- A key's weight. -/
theorem wt_at (b : Fin 2) (h : Fin 4) (p k : Fin 16512) :
    val_main_v29 (F := Ideal) x0 x1 (ValueIdx.ix4 b h p k) = wt (zr x0 x1 (⟨4 * b.val + h.val, by omega⟩ : Fin 8) p.val) p.val k.val := by
  have ei : idx_main_call4_v1 (ValueIdx.ix4 b h p k) = ValueIdx.ix2 p k := by funext a; match a with | ⟨0, _⟩ => rfl | ⟨1, _⟩ => rfl
  rw [val_main_v29_apply, val_main_v28_apply, val_main_v27_apply, share_at, after_at, val_main_call4_v1_apply, val_main_call4_v2_apply,
    val_main_call4_v0_apply, val_main_cst_0_apply, ei, mask_at, select_ofBool]
  unfold wt
  by_cases ho : ok p.val k.val
  · rw [if_pos ho, if_pos ho, carry_eq _ _ k.isLt, Ideal.addf_def, lk, if_pos ho, expo_eq]
    rfl
  · rw [if_neg ho, if_neg ho]; simp

/-- A head's output. -/
theorem att_at (b : Fin 2) (h : Fin 4) (p : Fin 16512) (d : Fin 64) :
    val_main_v30 (F := Ideal) x0 x1 x2 (ValueIdx.ix4 b h p d) = head x0 x1 x2 (⟨4 * b.val + h.val, by omega⟩ : Fin 8) p.val d := by
  rw [val_main_v30_apply]
  unfold head att acc
  rw [← Finset.range_eq_Ico, ← Fin.sum_univ_eq_sum_range (fun k => wt (zr x0 x1 (⟨4 * b.val + h.val, by omega⟩ : Fin 8) p.val) p.val k
    * entry x2 (⟨4 * b.val + h.val, by omega⟩ : Fin 8) k d) 16512]
  refine Finset.sum_congr rfl fun k _ => ?_
  have el : lidx_main_v30 (ValueIdx.ix4 b h p d) k = ValueIdx.ix4 b h p k := by
    funext a; match a with | ⟨0, _⟩ => rfl | ⟨1, _⟩ => rfl | ⟨2, _⟩ => rfl | ⟨3, _⟩ => rfl
  have er : ridx_main_v30 (ValueIdx.ix4 b h p d) k = ValueIdx.ix4 b h k d := by
    funext a; match a with | ⟨0, _⟩ => rfl | ⟨1, _⟩ => rfl | ⟨2, _⟩ => rfl | ⟨3, _⟩ => rfl
  rw [el, er, wt_at, v_eq, q_at]

/-- A head's output where the result reads it. -/
theorem o_at (b : Fin 2) (p : Fin 16512) (h : Fin 4) (d : Fin 64) :
    val_main_v31 (F := Ideal) x0 x1 x2 (ValueIdx.ix4 b p h d) = head x0 x1 x2 (⟨4 * b.val + h.val, by omega⟩ : Fin 8) p.val d := by
  rw [val_main_v31_apply, ← att_at]
  refine congrArg (val_main_v30 (F := Ideal) x0 x1 x2) ?_
  funext a; match a with | ⟨0, _⟩ => rfl | ⟨1, _⟩ => rfl | ⟨2, _⟩ => rfl | ⟨3, _⟩ => rfl

/-- The reciprocal root of a head's mean square. -/
theorem rms_at (b : Fin 2) (p : Fin 16512) (h : Fin 4) :
    val_main_v39 (F := Ideal) x0 x1 x2 (ValueIdx.ix4 b p h (0 : Fin 1))
      = Ideal.rsqrt (Ideal.div (∑ k, head x0 x1 x2 (⟨4 * b.val + h.val, by omega⟩ : Fin 8) p.val k * head x0 x1 x2 (⟨4 * b.val + h.val, by omega⟩ : Fin 8) p.val k)
          (Ideal.ofBits .f32 0x42800000#32) + Ideal.ofBits .f32 0x358637BD#32) := by
  rw [val_main_v39_apply, val_main_v38_apply, val_main_v37_apply, val_main_cst_3_apply, val_main_v36_apply, val_main_v35_apply, val_main_cst_2_apply,
    val_main_v34_apply, val_main_v33_apply, val_main_cst_1_apply]
  have e : ∀ k : Fin 64, val_main_v32 (F := Ideal) x0 x1 x2 (idx_main_v33 (idx_main_v34 (ValueIdx.ix4 b p h (0 : Fin 1))) k)
      = head x0 x1 x2 (⟨4 * b.val + h.val, by omega⟩ : Fin 8) p.val k * head x0 x1 x2 (⟨4 * b.val + h.val, by omega⟩ : Fin 8) p.val k := by
    intro k
    have ei : idx_main_v33 (idx_main_v34 (ValueIdx.ix4 b p h (0 : Fin 1))) k = ValueIdx.ix4 b p h k := by
      funext a; match a with | ⟨0, _⟩ => rfl | ⟨1, _⟩ => rfl | ⟨2, _⟩ => rfl | ⟨3, _⟩ => rfl
    rw [ei, val_main_v32_apply, o_at]
    rfl
  rw [Finset.sum_congr rfl fun k _ => e k, Ideal.ofBits_def, zero_word, zero_add]
  rfl

/-- **The reference's result**, element by element. -/
theorem ref_at (y : S2x16512x256.Idx) :
    val_main_v48 (F := Ideal) x0 x1 x2 x3 y = G x0 x1 x2 x3 y := by
  have h0 : (y 0).val < 2 := (y 0).isLt
  have h1 : (y 1).val < 16512 := (y 1).isLt
  have h2 : (y 2).val < 256 := (y 2).isLt
  have ei : idx_main_v47 y = ValueIdx.ix4 (⟨(y 0).val, h0⟩ : Fin 2) (⟨(y 1).val, h1⟩ : Fin 16512) (⟨(y 2).val / 64, by omega⟩ : Fin 4)
      (⟨(y 2).val % 64, by omega⟩ : Fin 64) := by
    funext a
    refine Fin.ext ?_
    match a with
    | ⟨0, _⟩ => show (((y 0).val * 16512 + (y 1).val) * 256 + (y 2).val) / 4227072 = (y 0).val; omega
    | ⟨1, _⟩ => show (((y 0).val * 16512 + (y 1).val) * 256 + (y 2).val) / 256 % 16512 = (y 1).val; omega
    | ⟨2, _⟩ => show (((y 0).val * 16512 + (y 1).val) * 256 + (y 2).val) / 64 % 4 = (y 2).val / 64; omega
    | ⟨3, _⟩ => show (((y 0).val * 16512 + (y 1).val) * 256 + (y 2).val) % 64 = (y 2).val % 64; omega
  have e40 : ∀ (b : Fin 2) (p : Fin 16512) (h : Fin 4) (d : Fin 64), idx_main_v40 (ValueIdx.ix4 b p h d) = ValueIdx.ix4 b p h (0 : Fin 1) := by
    intro b p h d
    funext a; match a with | ⟨0, _⟩ => rfl | ⟨1, _⟩ => rfl | ⟨2, _⟩ => rfl | ⟨3, _⟩ => rfl
  have eg : ∀ (b : Fin 2) (p : Fin 16512) (h : Fin 4) (d : Fin 64), val_main_v45 (F := Ideal) x3 (ValueIdx.ix4 b p h d) = x3 (ValueIdx.ix2 (0 : Fin 2) d) := by
    intro b p h d
    rw [val_main_v45_apply, val_main_v44_apply, val_main_v43_apply, val_main_v42_apply]
    refine congrArg x3 (funext fun a => Fin.ext ?_)
    match a with
    | ⟨0, _⟩ => rfl
    | ⟨1, _⟩ => exact Nat.mod_eq_of_lt d.isLt
  rw [val_main_v48_apply, val_main_v47_apply, ei, val_main_v46_apply, val_main_v41_apply, o_at, val_main_v40_apply, e40, rms_at, eg]
  rfl

end Cert.ReferenceIdeal.Sb

end
-- ==== Proof.Val2.Rows.lean ====
/-
  One token's row through the layer: the root-mean-square norm, the gated linear unit in its chunks, a linear map.
-/
module

public import Idealize.ShloMosaic.Lib.Pipeline.ValueKit

@[expose] public section

set_option maxRecDepth 16384

noncomputable section

namespace Cert.Rows

open Idealize.ShloMosaic
open scoped BigOperators

/-- A row divided by its root mean square and multiplied by a gain; `n` stands for the row's length, `e` is added to the mean. -/
def rms {N : ℕ} (n e : EReal) (x g : Fin N → EReal) (j : Fin N) : EReal :=
  x j * Ideal.rsqrt (Ideal.div (∑ k, x k * x k) n + e) * g j

/-- A row times a matrix. -/
def lin {N M : ℕ} (x : Fin N → EReal) (w : Fin N → Fin M → EReal) (f : Fin M) : EReal := ∑ k, x k * w k f

/-- The gated unit: the gate, smoothly switched, times the second map. -/
def act {N M : ℕ} (x : Fin N → EReal) (wg wu : Fin N → Fin M → EReal) (f : Fin M) : EReal :=
  lin x wg f * Ideal.logistic (lin x wg f) * lin x wu f

/-- The gated unit, mapped back. -/
def mlp {N M K : ℕ} (x : Fin N → EReal) (wg wu : Fin N → Fin M → EReal) (wd : Fin M → Fin K → EReal) (j : Fin K) : EReal :=
  lin (act x wg wu) wd j

/-- Half a step of the gated unit from a row. -/
def step (n e c : EReal) (x g : Fin 1024 → EReal) (wg wu : Fin 1024 → Fin 2816 → EReal) (wd : Fin 2816 → Fin 1024 → EReal) (j : Fin 1024) :
    EReal := x j + c * mlp (rms n e x g) wg wu wd j

/-- A sum of eleven terms. -/
theorem sum_eleven (g : Fin 11 → EReal) : ∑ c, g c = g 0 + g 1 + g 2 + g 3 + g 4 + g 5 + g 6 + g 7 + g 8 + g 9 + g 10 := by
  simp only [Fin.sum_univ_castSucc, Fin.sum_univ_zero, zero_add]
  rfl

/-- A sum over the 2816 hidden units is the sum of its eleven chunks of 256. -/
theorem sum_chunks (T : Fin 2816 → EReal) :
    (∑ f : Fin 256, T ⟨0 + f, by omega⟩) + (∑ f : Fin 256, T ⟨256 + f, by omega⟩) + (∑ f : Fin 256, T ⟨512 + f, by omega⟩)
      + (∑ f : Fin 256, T ⟨768 + f, by omega⟩) + (∑ f : Fin 256, T ⟨1024 + f, by omega⟩) + (∑ f : Fin 256, T ⟨1280 + f, by omega⟩)
      + (∑ f : Fin 256, T ⟨1536 + f, by omega⟩) + (∑ f : Fin 256, T ⟨1792 + f, by omega⟩) + (∑ f : Fin 256, T ⟨2048 + f, by omega⟩)
      + (∑ f : Fin 256, T ⟨2304 + f, by omega⟩) + (∑ f : Fin 256, T ⟨2560 + f, by omega⟩) = ∑ f, T f := by
  rw [← Fin.sum_mul_add_fin (S := 11) (n := 256) T, sum_eleven]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_) ?_
  all_goals refine Finset.sum_congr rfl fun f _ => congrArg T (Fin.ext ?_)
  all_goals simp

/-- The state-space group's row: gated by a linear map of itself, then normalised. -/
def unit5 (n e : EReal) (y : Fin 512 → EReal) (w : Fin 512 → Fin 512 → EReal) (b g : Fin 512 → EReal) : Fin 512 → EReal :=
  rms n e (fun k => y k * Ideal.logistic (lin y w k + b k)) g

/-- The three groups' rows through the output projection. -/
def mix (a b : Fin 256 → EReal) (c : Fin 512 → EReal) (w : Fin 1024 → Fin 1024 → EReal) (j : Fin 1024) : EReal :=
  lin a (fun k => w ⟨0 + k, by omega⟩) j + lin b (fun k => w ⟨256 + k, by omega⟩) j + lin c (fun k => w ⟨512 + k, by omega⟩) j

/-- One row through the three pieces of the projection is the row's three pieces mixed. -/
theorem lin_mix (x : Fin 1024 → EReal) (w : Fin 1024 → Fin 1024 → EReal) (j : Fin 1024) :
    lin x w j = mix (fun k => x ⟨0 + k, by omega⟩) (fun k => x ⟨256 + k, by omega⟩) (fun k => x ⟨512 + k, by omega⟩) w j := by
  unfold lin mix lin
  refine (Fin.sum_univ_add (a := 512) (b := 512) (fun k : Fin (512 + 512) => x k * w k j)).trans (congrArg₂ (· + ·) ?_ ?_)
  · refine (Fin.sum_univ_add (a := 256) (b := 256) _).trans (congrArg₂ (· + ·) ?_ ?_)
    all_goals refine Finset.sum_congr rfl fun k _ => ?_
    · rw [show Fin.castAdd 512 (Fin.castAdd 256 k) = (⟨0 + k.val, by omega⟩ : Fin 1024) from Fin.ext (by simp)]
    · rfl
  · rfl

/-- A row's second half of the layer: the groups mixed in, then half a step. -/
def layer (n5 n e c : EReal) (h : Fin 1024 → EReal) (a b : Fin 256 → EReal) (y : Fin 512 → EReal) (w5 : Fin 512 → Fin 512 → EReal)
    (b5 g5 : Fin 512 → EReal) (wo : Fin 1024 → Fin 1024 → EReal) (g : Fin 1024 → EReal) (wg wu : Fin 1024 → Fin 2816 → EReal)
    (wd : Fin 2816 → Fin 1024 → EReal) : Fin 1024 → EReal :=
  step n e c (fun j => h j + mix a b (unit5 n5 e y w5 b5 g5) wo j) g wg wu wd

end Cert.Rows

end
-- ==== Proof.Val2.Kernel.lean ====
/-
  The first feed-forward half step and the projections, kernel's side: what one block of 768 rows leaves.
-/
module

public import proofs.«01_k».proof.Proof.Gen.Kernel2Ideal.Frame
public import proofs.«01_k».proof.Proof.Val2.Rows

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

section block

variable (x0 : Vec Ideal S768x1024 .f32) (x1 : Vec Ideal S1x1x1024 .f32) (x2 x3 : Vec Ideal S1x1024x2816 .bf16) (x4 : Vec Ideal S1x2816x1024 .bf16)
  (x5 : Vec Ideal S1x1x1024 .f32) (x6 : Vec Ideal S1x1024x2432 .bf16)

/-- Chunk `o` of a matrix's columns. -/
def cols (x : Vec Ideal S1x1024x2816 .bf16) (o : ℕ) (h : ∀ a, (![0, 0, o] : Fin 3 → ℕ) a + ![1, 1024, 256] a ≤ S1x1024x2816.size a) :
    Vec Ideal S1x1024x256 .bf16 := View.ld x (Rect.unit ![0, 0, o] ![1, 1024, 256] h)

/-- Chunk `o` of a matrix's rows. -/
def rows (x : Vec Ideal S1x2816x1024 .bf16) (o : ℕ) (h : ∀ a, (![0, o, 0] : Fin 3 → ℕ) a + ![1, 256, 1024] a ≤ S1x2816x1024.size a) :
    Vec Ideal S1x256x1024 .bf16 := View.ld x (Rect.unit ![0, o, 0] ![1, 256, 1024] h)

theorem cols_at (x : Vec Ideal S1x1024x2816 .bf16) (o : ℕ) (h) (k : Fin 1024) (f : Fin 256) :
    cols x o h (ix3 0 k f) = x (ix3 0 k ⟨o + f.val, by have := h 2; change o + 256 ≤ 2816 at this; omega⟩) := by
  unfold cols
  pointwise []

theorem rows_at (x : Vec Ideal S1x2816x1024 .bf16) (o : ℕ) (h) (f : Fin 256) (j : Fin 1024) :
    rows x o h (ix3 0 f j) = x (ix3 0 ⟨o + f.val, by have := h 1; change o + 256 ≤ 2816 at this; omega⟩ j) := by
  unfold rows
  pointwise []

/-- Columns `o` to `o + n` of the projection. -/
def pcols (n : ℕ) (x : Vec Ideal S1x1024x2432 .bf16) (o : ℕ) (h : ∀ a, (![0, 0, o] : Fin 3 → ℕ) a + ![1, 1024, n] a ≤ S1x1024x2432.size a) :
    Vec Ideal ⟨3, ![1, 1024, n]⟩ .bf16 := View.ld x (Rect.unit ![0, 0, o] ![1, 1024, n] h)

theorem pcols_at (n : ℕ) (x : Vec Ideal S1x1024x2432 .bf16) (o : ℕ) (h) (k : Fin 1024) (f : Fin n) :
    pcols n x o h (ix3 0 k f) = x (ix3 0 k ⟨o + f.val, by have := h 2; have := f.isLt; change o + n ≤ 2432 at *; omega⟩) := by
  unfold pcols
  pointwise []

/-- The running sum after the last chunk. -/
def acc : FVec Ideal S768x1024 .f32 :=
  let xn := k0_pay4 x0 x1
  let a0 := k0_pay5 x0 x1 (cols x2 0 (by decide)) (cols x3 0 (by decide)) (rows x4 0 (by decide))
  let a1 := k0_pay6 xn a0 (cols x2 256 (by decide)) (cols x3 256 (by decide)) (rows x4 256 (by decide))
  let a2 := k0_pay10 a1 (k0_pay7 xn (cols x2 512 (by decide))) (k0_pay8 xn (cols x3 512 (by decide))) (k0_pay9 xn (cols x2 512 (by decide))) (rows x4 512 (by decide))
  let a3 := k0_pay11 xn a2 (cols x2 768 (by decide)) (cols x3 768 (by decide)) (rows x4 768 (by decide))
  let a4 := k0_pay12 xn a3 (cols x2 1024 (by decide)) (cols x3 1024 (by decide)) (rows x4 1024 (by decide))
  let a5 := k0_pay14 a4 (k0_pay13 xn (cols x2 1280 (by decide)) (cols x3 1280 (by decide))) (rows x4 1280 (by decide))
  let a6 := k0_pay15 xn a5 (cols x2 1536 (by decide)) (cols x3 1536 (by decide)) (rows x4 1536 (by decide))
  let a7 := k0_pay16 xn a6 (cols x2 1792 (by decide)) (cols x3 1792 (by decide)) (rows x4 1792 (by decide))
  let a8 := k0_pay18 a7 (k0_pay17 xn (cols x2 2048 (by decide)) (cols x3 2048 (by decide))) (rows x4 2048 (by decide))
  let a9 := k0_pay19 xn a8 (cols x2 2304 (by decide)) (cols x3 2304 (by decide)) (rows x4 2304 (by decide))
  k0_pay20 xn a9 (cols x2 2560 (by decide)) (cols x3 2560 (by decide)) (rows x4 2560 (by decide))

/-- The constants: the row's length, what is added to the mean, one half, one eighth. -/
abbrev cn : EReal := Ideal.ofBits .f32 0x44800000#32
abbrev ce : EReal := Ideal.ofBits .f32 0x358637BD#32
abbrev ch : EReal := Ideal.ofBits .f32 0x3F000000#32
abbrev cs : EReal := Ideal.ofBits .f32 0x3E000000#32

theorem xn_at (i : Fin 768) (j : Fin 1024) :
    k0_pay4 x0 x1 (ix2 i j) = Rows.rms cn ce (fun k => x0 (ix2 i k)) (fun k => x1 (ix3 0 0 k)) j := by
  pointwise [k0_pay4, k0_pay3]
  rfl

theorem acc_at (i : Fin 768) (j : Fin 1024) :
    acc x0 x1 x2 x3 x4 (ix2 i j) = Rows.mlp (fun k => k0_pay4 x0 x1 (ix2 i k)) (fun k f => x2 (ix3 0 k f)) (fun k f => x3 (ix3 0 k f))
      (fun f j => x4 (ix3 0 f j)) j := by
  unfold acc Rows.mlp Rows.lin
  rw [← Rows.sum_chunks]
  pointwise [k0_pay5, k0_pay6, k0_pay7, k0_pay8, k0_pay9, k0_pay10, k0_pay11, k0_pay12, k0_pay13,
    k0_pay14, k0_pay15, k0_pay16, k0_pay17, k0_pay18, k0_pay19, k0_pay20]
  simp only [cols_at, rows_at]
  rfl

/-- The block's rows after the half step. -/
abbrev hid : FVec Ideal S768x1024 .f32 := k0_pay21 (k0_pay3 x0) (acc x0 x1 x2 x3 x4)

/-- Those rows, normalised. -/
abbrev hn : FVec Ideal S768x1024 .bf16 := k0_pay24 (k0_pay22 (k0_pay3 x0) (acc x0 x1 x2 x3 x4)) (k0_pay23 x5)

theorem hid_at (i : Fin 768) (j : Fin 1024) :
    hid x0 x1 x2 x3 x4 (ix2 i j) = Rows.step cn ce ch (fun k => x0 (ix2 i k)) (fun k => x1 (ix3 0 0 k)) (fun k f => x2 (ix3 0 k f))
      (fun k f => x3 (ix3 0 k f)) (fun f j => x4 (ix3 0 f j)) j := by
  pointwise [k0_pay21, k0_pay3]
  rw [acc_at, funext fun k => xn_at x0 x1 i k]
  rfl

theorem hn_at (i : Fin 768) (j : Fin 1024) :
    hn x0 x1 x2 x3 x4 x5 (ix2 i j) = Rows.rms cn ce (fun k => hid x0 x1 x2 x3 x4 (ix2 i k)) (fun k => x5 (ix3 0 0 k)) j := by
  pointwise [k0_pay24, k0_pay22, k0_pay23]
  rfl

variable (u g : FVec Ideal S768x1024 .f32) (i : Fin 768)

theorem k_pay25 (v : Vec Ideal S1x1024x256 .bf16) (f : Fin 256) :
    k0_pay25 u g v (ix2 i f) = Rows.lin (fun k => k0_pay24 u g (ix2 i k)) (fun k f => v (ix3 0 k f)) f * cs := by
  pointwise [k0_pay25, k0_pay24]
  rfl

theorem k_pay26 (v : Vec Ideal S1x1024x256 .bf16) (f : Fin 256) :
    k0_pay26 u g v (ix2 i f) = Rows.lin (fun k => k0_pay24 u g (ix2 i k)) (fun k f => v (ix3 0 k f)) f := by
  pointwise [k0_pay26, k0_pay24]
  rfl

theorem k_pay27 (v : Vec Ideal S1x1024x256 .bf16) (f : Fin 256) :
    k0_pay27 u g v (ix2 i f) = Rows.lin (fun k => k0_pay24 u g (ix2 i k)) (fun k f => v (ix3 0 k f)) f := by
  pointwise [k0_pay27, k0_pay24]
  rfl

theorem k_pay28 (v : Vec Ideal S1x1024x768 .bf16) (f : Fin 768) :
    k0_pay28 u g v (ix2 i f) = Rows.lin (fun k => k0_pay24 u g (ix2 i k)) (fun k f => v (ix3 0 k f)) f := by
  pointwise [k0_pay28, k0_pay24]
  rfl

theorem k_pay29 (v : Vec Ideal S1x1024x256 .bf16) (f : Fin 256) :
    k0_pay29 u g v (ix2 i f) = Rows.lin (fun k => k0_pay24 u g (ix2 i k)) (fun k f => v (ix3 0 k f)) f := by
  pointwise [k0_pay29, k0_pay24]
  rfl

theorem k_pay1 (v : Vec Ideal S1x1024x128 .bf16) (f : Fin 128) :
    k0_pay1 (k0_pay24 u g) v (ix2 i f) = Rows.lin (fun k => k0_pay24 u g (ix2 i k)) (fun k f => v (ix3 0 k f)) f := by
  pointwise [k0_pay1, k0_pay24]
  rfl

theorem k_pay2 (v : Vec Ideal S1x1024x512 .bf16) (f : Fin 512) :
    k0_pay2 (k0_pay24 u g) v (ix2 i f) = Rows.lin (fun k => k0_pay24 u g (ix2 i k)) (fun k f => v (ix3 0 k f)) f := by
  pointwise [k0_pay2, k0_pay24]
  rfl

end block

section out

variable (m : (ℓ : Loc nD τ sig) → Buf (Elt Ideal) ℓ) (c : Dev nD) (t : Fin cfg0.N)

/-- The rows after the half step, and normalised, at a point of the grid. -/
abbrev hidt : FVec Ideal S768x1024 .f32 := hid (iblk m c 0 t) (iblk m c 1 t) (iblk m c 2 t) (iblk m c 3 t) (iblk m c 4 t)
/-- The two factors of the normalised rows at a point: the rows divided by their root mean square, and the gain. -/
abbrev ut : FVec Ideal S768x1024 .f32 := k0_pay22 (k0_pay3 (iblk m c 0 t)) (acc (iblk m c 0 t) (iblk m c 1 t) (iblk m c 2 t) (iblk m c 3 t) (iblk m c 4 t))
abbrev gt : FVec Ideal S768x1024 .f32 := k0_pay23 (iblk m c 5 t)
abbrev hnt : FVec Ideal S768x1024 .bf16 := hn (iblk m c 0 t) (iblk m c 1 t) (iblk m c 2 t) (iblk m c 3 t) (iblk m c 4 t) (iblk m c 5 t)

theorem out7 : (outsAt0 m c t).1 = hidt m c t := by
  dsimp only [outsAt0]
  frame_out
  rfl

theorem out8 : (outsAt0 m c t).2.1 = k0_pay25 (ut m c t) (gt m c t) (pcols 256 (iblk m c 6 t) 0 (by decide)) := by
  dsimp only [outsAt0]
  frame_out
  rfl

theorem out9 : (outsAt0 m c t).2.2.1 = k0_pay26 (ut m c t) (gt m c t) (pcols 256 (iblk m c 6 t) 256 (by decide)) := by
  dsimp only [outsAt0]
  frame_out
  rfl

theorem out10 : (outsAt0 m c t).2.2.2.1 = k0_pay27 (ut m c t) (gt m c t) (pcols 256 (iblk m c 6 t) 512 (by decide)) := by
  dsimp only [outsAt0]
  frame_out
  rfl

theorem out11 : (outsAt0 m c t).2.2.2.2.1
    = k0_pay28 (ut m c t) (gt m c t) (pcols 768 (iblk m c 6 t) 768 (by decide)) := by
  dsimp only [outsAt0]
  frame_out
  rfl

theorem out12 : (outsAt0 m c t).2.2.2.2.2.1
    = k0_pay29 (ut m c t) (gt m c t) (pcols 256 (iblk m c 6 t) 1536 (by decide)) := by
  dsimp only [outsAt0]
  frame_out
  rfl

theorem out13 : (outsAt0 m c t).2.2.2.2.2.2.1
    = k0_pay1 (hnt m c t) (pcols 128 (iblk m c 6 t) 1792 (by decide)) := by
  dsimp only [outsAt0]
  frame_out
  rfl

theorem out14 : (outsAt0 m c t).2.2.2.2.2.2.2
    = k0_pay2 (hnt m c t) (pcols 512 (iblk m c 6 t) 1920 (by decide)) := by
  dsimp only [outsAt0]
  frame_out
  rfl

end out

end Cert.Kernel2Ideal.Ffn

end
-- ==== Proof.Val2.Final.lean ====
/-
  The first feed-forward half step and the projections, kernel's side: the eight arrays it leaves.
-/
module

public import proofs.«01_k».proof.Proof.Val2.Kernel
public import Idealize.ShloMosaic.Lib.Claim
public import Idealize.ShloMosaic.Lib.StableHlo.RunRead

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

section arrays

variable (h : Vec Ideal S33024x1024 .f32) (g : Vec Ideal S2x1x1024 .f32) (wg wu : Vec Ideal S2x1024x2816 .bf16) (wd : Vec Ideal S2x2816x1024 .bf16)
  (gm : Vec Ideal S2x1x1024 .f32) (w : Vec Ideal S2x1024x2432 .bf16)

/-- A token's row after the half step. -/
def row (p : Fin 33024) : Fin 1024 → EReal :=
  Rows.step cn ce ch (fun k => h (ix2 p k)) (fun k => g (ix3 0 0 k)) (fun k f => wg (ix3 0 k f)) (fun k f => wu (ix3 0 k f)) (fun f j => wd (ix3 0 f j))

/-- That row, normalised, and projected. -/
def proj (p : Fin 33024) : Fin 2432 → EReal :=
  Rows.lin (Rows.rms cn ce (row h g wg wu wd p) (fun k => gm (ix3 0 0 k))) (fun k f => w (ix3 0 k f))

/-- The array of the rows. -/
def G7 : Vec Ideal S33024x1024 .f32 := fun y => row h g wg wu wd (y 0) (y 1)

/-- Columns `o` to `o + n` of the projections. -/
def Gp (n o : ℕ) (ho : o + n ≤ 2432) (y : (⟨2, ![33024, n]⟩ : Shape).Idx) : EReal :=
  proj h g wg wu wd gm w (y 0) ⟨o + (y 1).val, Nat.lt_of_lt_of_le (Nat.add_lt_add_left (y 1).isLt o) ho⟩

/-- The queries: the first 256 columns, scaled. -/
def Gq (y : S33024x256.Idx) : EReal := Gp h g wg wu wd gm w 256 0 (by decide) y * cs

/-- The tokens of both sequences in a row: 112 rows of zeros, the 16 meta tokens, the 16384 tokens of the sequence. -/
def toks (x : Vec Ideal S2x16384x1024 .f32) (mt : Vec Ideal S16x1024 .f32) : Vec Ideal S33024x1024 .f32 := fun y =>
  if (y 0).val % 16512 < 112 then 0
  else if h : (y 0).val % 16512 < 128 then mt (ix2 ⟨(y 0).val % 16512 - 112, by omega⟩ (y 1))
  else x (ix3 ⟨(y 0).val / 16512, by have : (y 0).val < 33024 := (y 0).isLt; omega⟩ ⟨(y 0).val % 16512 - 128, by omega⟩ (y 1))

/-- The projection's columns, 120 of zeros among them. -/
def padw (w : Vec Ideal S2x1024x2312 .f32) : Vec Ideal S2x1024x2432 .bf16 := fun y =>
  if h : (y 2).val < 1800 then w (ix3 (y 0) (y 1) ⟨(y 2).val, by omega⟩)
  else if h' : (y 2).val < 1920 then 0
  else w (ix3 (y 0) (y 1) ⟨(y 2).val - 120, by have : (y 2).val < 2432 := (y 2).isLt; omega⟩)

theorem toks_zero (x : Vec Ideal S2x16384x1024 .f32) (mt : Vec Ideal S16x1024 .f32) (p : Fin 33024) (k : Fin 1024) (h : p.val % 16512 < 112) :
    toks x mt (ix2 p k) = (0 : EReal) := by
  unfold toks
  rw [if_pos (show ((ix2 p k) 0).val % 16512 < 112 from h)]

theorem toks_meta (x : Vec Ideal S2x16384x1024 .f32) (mt : Vec Ideal S16x1024 .f32) (p : Fin 33024) (k : Fin 1024) (h : ¬ p.val % 16512 < 112)
    (h' : p.val % 16512 < 128) (q : Fin 16) (hq : q.val = p.val % 16512 - 112) : toks x mt (ix2 p k) = mt (ix2 q k) := by
  unfold toks
  rw [if_neg (show ¬ ((ix2 p k) 0).val % 16512 < 112 from h), dif_pos (show ((ix2 p k) 0).val % 16512 < 128 from h')]
  exact congrArg (fun e => mt (ix2 e k)) (Fin.ext hq.symm)

theorem toks_seq (x : Vec Ideal S2x16384x1024 .f32) (mt : Vec Ideal S16x1024 .f32) (p : Fin 33024) (k : Fin 1024) (h : ¬ p.val % 16512 < 128)
    (b : Fin 2) (hb : b.val = p.val / 16512) (q : Fin 16384) (hq : q.val = p.val % 16512 - 112 - 16) : toks x mt (ix2 p k) = x (ix3 b q k) := by
  unfold toks
  rw [if_neg (show ¬ ((ix2 p k) 0).val % 16512 < 112 from fun h' => h (Nat.lt_trans h' (by decide))), dif_neg (show ¬ ((ix2 p k) 0).val % 16512 < 128 from h)]
  exact congrArg₂ (fun e f => x (ix3 e f k)) (Fin.ext hb.symm) (Fin.ext (by rw [hq]; show p.val % 16512 - 128 = p.val % 16512 - 112 - 16; omega))

theorem padw_lo (w : Vec Ideal S2x1024x2312 .f32) (a : Fin 2) (k : Fin 1024) (j : Fin 2432) (h : j.val < 1800) :
    padw w (ix3 a k j) = w (ix3 a k ⟨j.val, by omega⟩) := by
  unfold padw
  rw [dif_pos (show ((ix3 a k j) 2).val < 1800 from h)]
  rfl

theorem padw_mid (w : Vec Ideal S2x1024x2312 .f32) (a : Fin 2) (k : Fin 1024) (j : Fin 2432) (h : ¬ j.val < 1800) (h' : j.val < 1920) :
    padw w (ix3 a k j) = (0 : EReal) := by
  unfold padw
  rw [dif_neg (show ¬ ((ix3 a k j) 2).val < 1800 from h), dif_pos (show ((ix3 a k j) 2).val < 1920 from h')]

theorem padw_hi (w : Vec Ideal S2x1024x2312 .f32) (a : Fin 2) (k : Fin 1024) (j : Fin 2432) (h : ¬ j.val < 1920) :
    padw w (ix3 a k j) = w (ix3 a k ⟨j.val - 120, by omega⟩) := by
  unfold padw
  rw [dif_neg (show ¬ ((ix3 a k j) 2).val < 1800 from fun h' => h (Nat.lt_trans h' (by decide))), dif_neg (show ¬ ((ix3 a k j) 2).val < 1920 from h)]
  rfl

end arrays

section final

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- The arguments, in the shapes the call takes them. -/
abbrev a0 : Vec Ideal S33024x1024 .f32 := toks (m ((c : Thread nD τ).loc main_arg0)) (m ((c : Thread nD τ).loc main_arg1))
abbrev a1 : Vec Ideal S2x1x1024 .f32 := fun y => (m ((c : Thread nD τ).loc main_arg2) : Vec Ideal S2x1024 .f32) (ix2 (y 0) (y 2))
abbrev a2 : Vec Ideal S2x1024x2816 .bf16 := fun y => (m ((c : Thread nD τ).loc main_arg3) : Vec Ideal S2x1024x2816 .f32) y
abbrev a3 : Vec Ideal S2x1024x2816 .bf16 := fun y => (m ((c : Thread nD τ).loc main_arg4) : Vec Ideal S2x1024x2816 .f32) y
abbrev a4 : Vec Ideal S2x2816x1024 .bf16 := fun y => (m ((c : Thread nD τ).loc main_arg5) : Vec Ideal S2x2816x1024 .f32) y
abbrev a5 : Vec Ideal S2x1x1024 .f32 := fun y => (m ((c : Thread nD τ).loc main_arg6) : Vec Ideal S2x1024 .f32) (ix2 (y 0) (y 2))
abbrev a6 : Vec Ideal S2x1024x2432 .bf16 := padw (m ((c : Thread nD τ).loc main_arg7))

/-- The array's rows. -/
abbrev rowm (p : Fin 33024) : Fin 1024 → EReal := row (a0 m c) (a1 m c) (a2 m c) (a3 m c) (a4 m c) p

theorem host2 (y : S2x112x1024.Idx) : (StableHlo.upto hostOps0 (fun b => m (c, b)) 4 (Proc.tc.devRef main_v2) : Vec Ideal S2x112x1024 .f32) y = (0 : EReal) := by
  after_reads_simp
  pointwise

theorem host1 (b : Fin 2) (q : Fin 16) (k : Fin 1024) : (StableHlo.upto hostOps0 (fun b => m (c, b)) 4 (Proc.tc.devRef main_v1) : Vec Ideal S2x16x1024 .f32) (ix3 b q k)
    = (m (c.tc.loc main_arg1) : Vec Ideal S16x1024 .f32) (ix2 q k) := by
  after_reads_simp
  pointwise

theorem host0 : (StableHlo.upto hostOps0 (fun b => m (c, b)) 4 (Proc.tc.devRef main_arg0) : Vec Ideal S2x16384x1024 .f32) = (m (c.tc.loc main_arg0) : Vec Ideal S2x16384x1024 .f32) := by
  after_reads_simp

theorem host10 (y : S2x1024x120.Idx) : (StableHlo.upto hostOps0 (fun b => m (c, b)) 15 (Proc.tc.devRef main_v10) : Vec Ideal S2x1024x120 .f32) y = (0 : EReal) := by
  after_reads_simp
  pointwise

theorem host11 (b : Fin 2) (q : Fin 1024) (k : Fin 1800) : (StableHlo.upto hostOps0 (fun b => m (c, b)) 15 (Proc.tc.devRef main_v11) : Vec Ideal S2x1024x1800 .f32) (ix3 b q k)
    = (m (c.tc.loc main_arg7) : Vec Ideal S2x1024x2312 .f32) (ix3 b q ⟨k.val, by omega⟩) := by
  after_reads_simp
  pointwise

theorem host12 (b : Fin 2) (q : Fin 1024) (k : Fin 512) : (StableHlo.upto hostOps0 (fun b => m (c, b)) 15 (Proc.tc.devRef main_v12) : Vec Ideal S2x1024x512 .f32) (ix3 b q k)
    = (m (c.tc.loc main_arg7) : Vec Ideal S2x1024x2312 .f32) (ix3 b q ⟨1800 + k.val, by omega⟩) := by
  after_reads_simp
  pointwise

theorem prep0 : (V m c main_v4 : Vec Ideal S33024x1024 .f32) = a0 m c := by
  funext y
  idx_vars y
  dsimp only [V]
  after_reads_simp
  pointwise
  by_cases h1 : y0.val % 16512 < 112
  · rw [dif_pos h1]
    exact (host2 m c _).trans (toks_zero _ _ _ _ h1).symm
  · rw [dif_neg h1]
    by_cases h2 : y0.val % 16512 < 128
    · rw [dif_pos (by omega)]
      exact (host1 m c _ _ _).trans (toks_meta _ _ _ _ h1 h2 _ rfl).symm
    · rw [dif_neg (by omega)]
      exact (congrFun (host0 m c) _).trans (toks_seq _ _ _ _ h2 _ rfl _ rfl).symm

theorem prep1 : (V m c main_v5 : Vec Ideal S2x1x1024 .f32) = a1 m c := by
  funext y
  idx_vars y
  entry_read
  pointwise
  rfl

theorem prep2 : (V m c main_v6 : Vec Ideal S2x1024x2816 .bf16) = a2 m c := by
  funext y
  entry_read
  rfl

theorem prep3 : (V m c main_v7 : Vec Ideal S2x1024x2816 .bf16) = a3 m c := by
  funext y
  entry_read
  rfl

theorem prep4 : (V m c main_v8 : Vec Ideal S2x2816x1024 .bf16) = a4 m c := by
  funext y
  entry_read
  rfl

theorem prep5 : (V m c main_v9 : Vec Ideal S2x1x1024 .f32) = a5 m c := by
  funext y
  idx_vars y
  entry_read
  pointwise
  rfl

theorem prep6 : (V m c main_v14 : Vec Ideal S2x1024x2432 .bf16) = a6 m c := by
  funext y
  idx_vars y
  dsimp only [V]
  after_reads_simp
  pointwise
  by_cases h1 : y2.val < 1800
  · rw [dif_pos h1]
    exact (host11 m c _ _ _).trans (padw_lo _ _ _ _ h1).symm
  · rw [dif_neg h1]
    by_cases h2 : y2.val < 1920
    · rw [dif_pos (by omega)]
      exact (host10 m c _).trans (padw_mid _ _ _ _ h1 h2).symm
    · rw [dif_neg (by omega)]
      refine ((host12 m c _ _ _).trans (congrArg (fun e => (m ((c : Thread nD τ).loc main_arg7) : Vec Ideal S2x1024x2312 .f32) (ix3 y0 y1 e)) (Fin.ext ?_))).trans
        (padw_hi _ _ _ _ h2).symm
      show 1800 + (y2.val - 1800 - 120) = y2.val - 120
      omega

theorem iblk0 (t : Fin cfg0.N) (i : Fin 768) (k : Fin 1024) (p : Fin 33024) (hp : p.val = t.val * 768 + i.val) :
    (iblk m c 0 t : Vec Ideal S768x1024 .f32) (ix2 i k) = a0 m c (ix2 p k) := by
  rw [← prep0 m c]
  blk_ext [iblk, idx t]

theorem iblk1 (t : Fin cfg0.N) (k : Fin 1024) : (iblk m c 1 t : Vec Ideal S1x1x1024 .f32) (ix3 0 0 k) = a1 m c (ix3 0 0 k) := by
  rw [← prep1 m c]
  blk_ext [iblk, idx t]

theorem iblk2 (t : Fin cfg0.N) (k : Fin 1024) (f : Fin 2816) :
    (iblk m c 2 t : Vec Ideal S1x1024x2816 .bf16) (ix3 0 k f) = a2 m c (ix3 0 k f) := by
  rw [← prep2 m c]
  blk_ext [iblk, idx t]

theorem iblk3 (t : Fin cfg0.N) (k : Fin 1024) (f : Fin 2816) :
    (iblk m c 3 t : Vec Ideal S1x1024x2816 .bf16) (ix3 0 k f) = a3 m c (ix3 0 k f) := by
  rw [← prep3 m c]
  blk_ext [iblk, idx t]

theorem iblk4 (t : Fin cfg0.N) (f : Fin 2816) (j : Fin 1024) :
    (iblk m c 4 t : Vec Ideal S1x2816x1024 .bf16) (ix3 0 f j) = a4 m c (ix3 0 f j) := by
  rw [← prep4 m c]
  blk_ext [iblk, idx t]

theorem iblk5 (t : Fin cfg0.N) (k : Fin 1024) : (iblk m c 5 t : Vec Ideal S1x1x1024 .f32) (ix3 0 0 k) = a5 m c (ix3 0 0 k) := by
  rw [← prep5 m c]
  blk_ext [iblk, idx t]

theorem iblk6 (t : Fin cfg0.N) (k : Fin 1024) (f : Fin 2432) :
    (iblk m c 6 t : Vec Ideal S1x1024x2432 .bf16) (ix3 0 k f) = a6 m c (ix3 0 k f) := by
  rw [← prep6 m c]
  blk_ext [iblk, idx t]

theorem hidt_at (t : Fin cfg0.N) (i : Fin 768) (j : Fin 1024) (p : Fin 33024) (hp : p.val = t.val * 768 + i.val) :
    hidt m c t (ix2 i j) = rowm m c p j := by
  refine (hid_at _ _ _ _ _ i j).trans ?_
  unfold rowm row
  simp only [iblk0 m c t i _ p hp, iblk1, iblk2, iblk3, iblk4]

theorem hnt_at (t : Fin cfg0.N) (i : Fin 768) (p : Fin 33024) (hp : p.val = t.val * 768 + i.val) :
    (fun k => hnt m c t (ix2 i k)) = Rows.rms cn ce (rowm m c p) (fun k => a5 m c (ix3 0 0 k)) := by
  funext j
  refine (hn_at _ _ _ _ _ _ i j).trans ?_
  rw [funext fun k => hidt_at m c t i k p hp, funext fun k => iblk5 m c t k]

/-- A projection's entry at a point of the grid. -/
theorem proj_at (t : Fin cfg0.N) (i : Fin 768) (n o : ℕ) (hs) (ho : o + n ≤ 2432) (f : Fin n) (z : (⟨2, ![33024, n]⟩ : Shape).Idx)
    (h0 : (z 0).val = t.val * 768 + i.val) (h1 : (z 1).val = f.val) :
    Rows.lin (fun k => hnt m c t (ix2 i k)) (fun k f => pcols n (iblk m c 6 t) o hs (ix3 0 k f)) f
      = Gp (a0 m c) (a1 m c) (a2 m c) (a3 m c) (a4 m c) (a5 m c) (a6 m c) n o ho z := by
  rw [hnt_at m c t i (z 0) h0]
  unfold Gp proj Rows.lin
  refine Finset.sum_congr rfl fun k _ => ?_
  refine congrArg (_ * ·) (((pcols_at n _ o hs k f).trans (iblk6 m c t k _)).trans (congrArg (fun q => a6 m c (ix3 0 k q)) (Fin.ext ?_)))
  show o + f.val = o + (z 1).val
  rw [h1]

theorem final7 : (dats m 0 c).arrAt 7 (cfgs 0).N = G7 (a0 m c) (a1 m c) (a2 m c) (a3 m c) (a4 m c) := by
  refine (dats m 0 c).arrAt_eq_of_covers 7 _ (by decide +kernel) fun t _ y => ?_
  blk_simp
  rw [after0_7, out7]
  idx_vars y
  refine (hidt_at m c t _ _ _ ?_).trans (congrArg (row _ _ _ _ _ _) (Fin.ext ?_))
  all_goals (blk_simp [idx t] <;> try omega)

theorem final8 : (dats m 0 c).arrAt 8 (cfgs 0).N = Gq (a0 m c) (a1 m c) (a2 m c) (a3 m c) (a4 m c) (a5 m c) (a6 m c) := by
  refine (dats m 0 c).arrAt_eq_of_covers 8 _ (by decide +kernel) fun t _ y => ?_
  blk_simp
  rw [after0_8, out8]
  idx_vars y
  refine (k_pay25 _ _ _ _ _).trans (congrArg (· * cs) (proj_at m c t _ 256 0 _ (by decide) _ _ ?_ ?_))
  all_goals (blk_simp [idx t] <;> try omega)

theorem final9 : (dats m 0 c).arrAt 9 (cfgs 0).N = Gp (a0 m c) (a1 m c) (a2 m c) (a3 m c) (a4 m c) (a5 m c) (a6 m c) 256 256 (by decide) := by
  refine (dats m 0 c).arrAt_eq_of_covers 9 _ (by decide +kernel) fun t _ y => ?_
  blk_simp
  rw [after0_9, out9]
  idx_vars y
  refine (k_pay26 _ _ _ _ _).trans (proj_at m c t _ 256 256 _ (by decide) _ _ ?_ ?_)
  all_goals (blk_simp [idx t] <;> try omega)

theorem final10 : (dats m 0 c).arrAt 10 (cfgs 0).N = Gp (a0 m c) (a1 m c) (a2 m c) (a3 m c) (a4 m c) (a5 m c) (a6 m c) 256 512 (by decide) := by
  refine (dats m 0 c).arrAt_eq_of_covers 10 _ (by decide +kernel) fun t _ y => ?_
  blk_simp
  rw [after0_10, out10]
  idx_vars y
  refine (k_pay27 _ _ _ _ _).trans (proj_at m c t _ 256 512 _ (by decide) _ _ ?_ ?_)
  all_goals (blk_simp [idx t] <;> try omega)

theorem final11 : (dats m 0 c).arrAt 11 (cfgs 0).N = Gp (a0 m c) (a1 m c) (a2 m c) (a3 m c) (a4 m c) (a5 m c) (a6 m c) 768 768 (by decide) := by
  refine (dats m 0 c).arrAt_eq_of_covers 11 _ (by decide +kernel) fun t _ y => ?_
  blk_simp
  rw [after0_11, out11]
  idx_vars y
  refine (k_pay28 _ _ _ _ _).trans (proj_at m c t _ 768 768 _ (by decide) _ _ ?_ ?_)
  all_goals (blk_simp [idx t] <;> try omega)

theorem final12 : (dats m 0 c).arrAt 12 (cfgs 0).N = Gp (a0 m c) (a1 m c) (a2 m c) (a3 m c) (a4 m c) (a5 m c) (a6 m c) 256 1536 (by decide) := by
  refine (dats m 0 c).arrAt_eq_of_covers 12 _ (by decide +kernel) fun t _ y => ?_
  blk_simp
  rw [after0_12, out12]
  idx_vars y
  refine (k_pay29 _ _ _ _ _).trans (proj_at m c t _ 256 1536 _ (by decide) _ _ ?_ ?_)
  all_goals (blk_simp [idx t] <;> try omega)

theorem final13 : (dats m 0 c).arrAt 13 (cfgs 0).N = Gp (a0 m c) (a1 m c) (a2 m c) (a3 m c) (a4 m c) (a5 m c) (a6 m c) 128 1792 (by decide) := by
  refine (dats m 0 c).arrAt_eq_of_covers 13 _ (by decide +kernel) fun t _ y => ?_
  blk_simp
  rw [after0_13, out13]
  idx_vars y
  refine (k_pay1 _ _ _ _ _).trans (proj_at m c t _ 128 1792 _ (by decide) _ _ ?_ ?_)
  all_goals (blk_simp [idx t] <;> try omega)

theorem final14 : (dats m 0 c).arrAt 14 (cfgs 0).N = Gp (a0 m c) (a1 m c) (a2 m c) (a3 m c) (a4 m c) (a5 m c) (a6 m c) 512 1920 (by decide) := by
  refine (dats m 0 c).arrAt_eq_of_covers 14 _ (by decide +kernel) fun t _ y => ?_
  blk_simp
  rw [after0_14, out14]
  idx_vars y
  refine (k_pay2 _ _ _ _ _).trans (proj_at m c t _ 512 1920 _ (by decide) _ _ ?_ ?_)
  all_goals (blk_simp [idx t] <;> try omega)

/-- The kernel's run: the eight arrays, the arguments as they were. -/
theorem run (g : Dev nD → PrngReg) : θ_run defs (onTc (τ := τ) (main (F := Ideal))) ⟨m, fun _ => 0, g⟩ fun r => ∀ c : Dev nD,
      r.2.mem ((c.tc : Thread nD τ).loc main_v15_0) = G7 (a0 m c) (a1 m c) (a2 m c) (a3 m c) (a4 m c)
      ∧ r.2.mem ((c.tc : Thread nD τ).loc main_v15_1) = Gq (a0 m c) (a1 m c) (a2 m c) (a3 m c) (a4 m c) (a5 m c) (a6 m c)
      ∧ r.2.mem ((c.tc : Thread nD τ).loc main_v15_2) = Gp (a0 m c) (a1 m c) (a2 m c) (a3 m c) (a4 m c) (a5 m c) (a6 m c) 256 256 (by decide)
      ∧ r.2.mem ((c.tc : Thread nD τ).loc main_v15_3) = Gp (a0 m c) (a1 m c) (a2 m c) (a3 m c) (a4 m c) (a5 m c) (a6 m c) 256 512 (by decide)
      ∧ r.2.mem ((c.tc : Thread nD τ).loc main_v15_4) = Gp (a0 m c) (a1 m c) (a2 m c) (a3 m c) (a4 m c) (a5 m c) (a6 m c) 768 768 (by decide)
      ∧ r.2.mem ((c.tc : Thread nD τ).loc main_v15_5) = Gp (a0 m c) (a1 m c) (a2 m c) (a3 m c) (a4 m c) (a5 m c) (a6 m c) 256 1536 (by decide)
      ∧ r.2.mem ((c.tc : Thread nD τ).loc main_v15_6) = Gp (a0 m c) (a1 m c) (a2 m c) (a3 m c) (a4 m c) (a5 m c) (a6 m c) 128 1792 (by decide)
      ∧ r.2.mem ((c.tc : Thread nD τ).loc main_v15_7) = Gp (a0 m c) (a1 m c) (a2 m c) (a3 m c) (a4 m c) (a5 m c) (a6 m c) 512 1920 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (θ_run_and (Cert.Kernel2Ideal.Gen.run_main m g) (Cert.Kernel2Ideal.Gen.unchanged m g))
  obtain ⟨h, ha⟩ := h
  have h := (h c).1
  exact ⟨(h 7).trans (final7 m c), (h 8).trans (final8 m c), (h 9).trans (final9 m c), (h 10).trans (final10 m c),
    (h 11).trans (final11 m c), (h 12).trans (final12 m c), (h 13).trans (final13 m c), (h 14).trans (final14 m c), ha c⟩

end final
-- ==== Proof.Val2.Ref.lean ====
/-
  The first feed-forward half step and the projections, reference's side: the same eight arrays.
-/
module

public import proofs.«01_k».proof.Proof.Val2.Final
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read
open Cert.Kernel2Ideal.Ffn (cn ce ch cs row proj G7 Gp Gq toks toks_zero toks_meta toks_seq padw padw_lo padw_mid padw_hi)
open Idealize.ShloMosaic Idealize.ShloMosaic.TcCoe Idealize.SL.Sem

variable (x0 : Vec Ideal S2x16384x1024 .f32) (x1 : Vec Ideal S16x1024 .f32) (x2 : Vec Ideal S2x1024 .f32) (x3 x4 : Vec Ideal S2x1024x2816 .f32)
  (x5 : Vec Ideal S2x2816x1024 .f32) (x6 : Vec Ideal S2x1024 .f32) (x7 : Vec Ideal S2x1024x2312 .f32) (p : Fin 33024)

/-- The arguments in the shapes the call takes them. -/
abbrev c0 : Vec Ideal Cert.Kernel2Ideal.S33024x1024 .f32 := toks x0 x1
abbrev c1 : Vec Ideal Cert.Kernel2Ideal.S2x1x1024 .f32 := fun y => x2 (ix2 (y 0) (y 2))
abbrev c2 : Vec Ideal Cert.Kernel2Ideal.S2x1024x2816 .bf16 := fun y => x3 y
abbrev c4 : Vec Ideal Cert.Kernel2Ideal.S2x2816x1024 .bf16 := fun y => x5 y

theorem tok_at (k : Fin 1024) : val_main_v4 (F := Ideal) x0 x1 (ix2 p k) = toks x0 x1 (ix2 p k) := by
  pointwise [val_main_v4, val_main_v3, val_main_v2, val_main_v1, val_main_v0, val_main_cst]
  by_cases h1 : p.val % 16512 < 112
  · rw [dif_pos h1]
    exact (toks_zero _ _ _ _ h1).symm
  · rw [dif_neg h1]
    by_cases h2 : p.val % 16512 < 128
    · rw [dif_pos (by omega)]
      exact (toks_meta _ _ _ _ h1 h2 _ rfl).symm
    · rw [dif_neg (by omega)]
      exact (toks_seq _ _ _ _ h2 _ rfl _ rfl).symm

theorem xn_at (j : Fin 1024) :
    val_main_v19 (F := Ideal) x0 x1 x2 (ix2 p j) = Rows.rms cn ce (fun k => c0 x0 x1 (ix2 p k)) (fun k => c1 x2 (ix3 0 0 k)) j := by
  pointwise [val_main_v19, val_main_v18, val_main_v17, val_main_v16, val_main_v15, val_main_v14, val_main_v13, val_main_v12, val_main_v11,
    val_main_v10, val_main_v9, val_main_v8, val_main_v7, val_main_v6, val_main_v5, val_main_cst_0, val_main_cst_1, val_main_cst_2]
  simp only [tok_at]
  rfl

theorem act_at (f : Fin 2816) :
    val_main_v29 (F := Ideal) x0 x1 x2 x3 x4 (ix2 p f)
      = Rows.act (fun k => val_main_v19 (F := Ideal) x0 x1 x2 (ix2 p k)) (fun k f => c2 x3 (ix3 0 k f)) (fun k f => c2 x4 (ix3 0 k f)) f := by
  pointwise [val_main_v29, val_main_v28, val_main_v27, val_main_v26, val_main_v23, val_main_v22, val_main_v21, val_main_v20,
    val_main_call0_v5, val_main_call0_v4, val_main_call0_v3, val_main_call0_v2, val_main_call0_v1, val_main_call0_v0,
    val_main_call0_cst, val_main_call0_cst_0]
  rfl

theorem row_at (j : Fin 1024) : val_main_v33 (F := Ideal) x0 x1 x2 x3 x4 x5 (ix2 p j) = row (c0 x0 x1) (c1 x2) (c2 x3) (c2 x4) (c4 x5) p j := by
  pointwise [val_main_v33, val_main_v32, val_main_v31, val_main_v30, val_main_v25, val_main_v24, val_main_cst_3]
  simp only [act_at, xn_at, tok_at]
  rfl

theorem hn_at (j : Fin 1024) :
    val_main_v48 (F := Ideal) x0 x1 x2 x3 x4 x5 x6 (ix2 p j)
      = Rows.rms cn ce (row (c0 x0 x1) (c1 x2) (c2 x3) (c2 x4) (c4 x5) p) (fun k => c1 x6 (ix3 0 0 k)) j := by
  pointwise [val_main_v48, val_main_v47, val_main_v46, val_main_v45, val_main_v44, val_main_v43, val_main_v42, val_main_v41, val_main_v40,
    val_main_v39, val_main_v38, val_main_v37, val_main_v36, val_main_v35, val_main_v34, val_main_cst_4, val_main_cst_5, val_main_cst_6]
  simp only [row_at]
  rfl

/-- The projections over the weight's own columns. -/
def raw (f : Fin 2312) : EReal :=
  Rows.lin (Rows.rms cn ce (row (c0 x0 x1) (c1 x2) (c2 x3) (c2 x4) (c4 x5) p) (fun k => c1 x6 (ix3 0 0 k))) (fun k f => x7 (ix3 0 k f)) f

theorem raw_at (f : Fin 2312) : val_main_v51 (F := Ideal) x0 x1 x2 x3 x4 x5 x6 x7 (ix2 p f) = raw x0 x1 x2 x3 x4 x5 x6 x7 p f := by
  pointwise [val_main_v51, val_main_v50, val_main_v49]
  simp only [hn_at]
  rfl

/-- The same over the columns with zeros among them. -/
abbrev pro (f : Fin 2432) : EReal := proj (c0 x0 x1) (c1 x2) (c2 x3) (c2 x4) (c4 x5) (c1 x6) (padw x7) p f

theorem pro_lo (f : Fin 2432) (h : f.val < 1800) : pro x0 x1 x2 x3 x4 x5 x6 x7 p f = raw x0 x1 x2 x3 x4 x5 x6 x7 p ⟨f.val, by omega⟩ := by
  unfold pro raw proj Rows.lin
  refine Finset.sum_congr rfl fun k _ => ?_
  dsimp only
  rw [padw_lo x7 0 k f h]

theorem pro_mid (f : Fin 2432) (h : ¬ f.val < 1800) (h' : f.val < 1920) : pro x0 x1 x2 x3 x4 x5 x6 x7 p f = 0 := by
  unfold pro proj Rows.lin
  refine Finset.sum_eq_zero fun k _ => ?_
  dsimp only
  rw [padw_mid x7 0 k f h h', mul_zero]

theorem pro_hi (f : Fin 2432) (h : ¬ f.val < 1920) : pro x0 x1 x2 x3 x4 x5 x6 x7 p f = raw x0 x1 x2 x3 x4 x5 x6 x7 p ⟨f.val - 120, by omega⟩ := by
  unfold pro raw proj Rows.lin
  refine Finset.sum_congr rfl fun k _ => ?_
  dsimp only
  rw [padw_hi x7 0 k f h]

theorem ref33 : val_main_v33 (F := Ideal) x0 x1 x2 x3 x4 x5 = G7 (c0 x0 x1) (c1 x2) (c2 x3) (c2 x4) (c4 x5) := by
  funext y
  idx_vars y
  exact row_at x0 x1 x2 x3 x4 x5 _ _

theorem ref64 : val_main_v64 (F := Ideal) x0 x1 x2 x3 x4 x5 x6 x7 = Gq (c0 x0 x1) (c1 x2) (c2 x3) (c2 x4) (c4 x5) (c1 x6) (padw x7) := by
  funext y
  idx_vars y
  pointwise [val_main_v64, val_main_v63, val_main_v62, val_main_v52, val_main_cst_8]
  simp only [raw_at]
  refine congrArg (· * cs) (Eq.symm ((pro_lo x0 x1 x2 x3 x4 x5 x6 x7 y0 ⟨0 + y1.val, by omega⟩ (by show 0 + y1.val < 1800; omega)).trans (congrArg (raw x0 x1 x2 x3 x4 x5 x6 x7 y0) (Fin.ext ?_))))
  exact Nat.zero_add _

theorem ref65 : val_main_v65 (F := Ideal) x0 x1 x2 x3 x4 x5 x6 x7 = Gp (c0 x0 x1) (c1 x2) (c2 x3) (c2 x4) (c4 x5) (c1 x6) (padw x7) 256 256 (by decide) := by
  funext y
  idx_vars y
  pointwise [val_main_v65, val_main_v53]
  simp only [raw_at]
  exact (pro_lo x0 x1 x2 x3 x4 x5 x6 x7 y0 ⟨256 + y1.val, by omega⟩ (by show 256 + y1.val < 1800; omega)).symm

theorem ref66 : val_main_v66 (F := Ideal) x0 x1 x2 x3 x4 x5 x6 x7 = Gp (c0 x0 x1) (c1 x2) (c2 x3) (c2 x4) (c4 x5) (c1 x6) (padw x7) 256 512 (by decide) := by
  funext y
  idx_vars y
  pointwise [val_main_v66, val_main_v54]
  simp only [raw_at]
  exact (pro_lo x0 x1 x2 x3 x4 x5 x6 x7 y0 ⟨512 + y1.val, by omega⟩ (by show 512 + y1.val < 1800; omega)).symm

theorem ref55 : val_main_v55 (F := Ideal) x0 x1 x2 x3 x4 x5 x6 x7 = Gp (c0 x0 x1) (c1 x2) (c2 x3) (c2 x4) (c4 x5) (c1 x6) (padw x7) 768 768 (by decide) := by
  funext y
  idx_vars y
  pointwise [val_main_v55]
  simp only [raw_at]
  exact (pro_lo x0 x1 x2 x3 x4 x5 x6 x7 y0 ⟨768 + y1.val, by omega⟩ (by show 768 + y1.val < 1800; omega)).symm

theorem ref56 : val_main_v56 (F := Ideal) x0 x1 x2 x3 x4 x5 x6 x7 = Gp (c0 x0 x1) (c1 x2) (c2 x3) (c2 x4) (c4 x5) (c1 x6) (padw x7) 256 1536 (by decide) := by
  funext y
  idx_vars y
  pointwise [val_main_v56]
  simp only [raw_at]
  exact (pro_lo x0 x1 x2 x3 x4 x5 x6 x7 y0 ⟨1536 + y1.val, by omega⟩ (by show 1536 + y1.val < 1800; omega)).symm

theorem ref61 : val_main_v61 (F := Ideal) x0 x1 x2 x3 x4 x5 x6 x7 = Gp (c0 x0 x1) (c1 x2) (c2 x3) (c2 x4) (c4 x5) (c1 x6) (padw x7) 128 1792 (by decide) := by
  funext y
  idx_vars y
  pointwise [val_main_v61, val_main_v60, val_main_v58, val_main_v57, val_main_cst_7]
  simp only [raw_at]
  by_cases h1 : y1.val < 4
  · rw [dif_pos h1]
    exact (pro_lo x0 x1 x2 x3 x4 x5 x6 x7 y0 ⟨1792 + y1.val, by omega⟩ (by show 1792 + y1.val < 1800; omega)).symm
  · rw [dif_neg h1]
    by_cases h2 : y1.val - 4 < 4
    · rw [dif_pos h2]
      refine ((pro_lo x0 x1 x2 x3 x4 x5 x6 x7 y0 ⟨1792 + y1.val, by omega⟩ (by show 1792 + y1.val < 1800; omega)).trans (congrArg (raw x0 x1 x2 x3 x4 x5 x6 x7 y0) (Fin.ext ?_))).symm
      show 1792 + y1.val = 1796 + (y1.val - 4)
      omega
    · rw [dif_neg h2]
      exact (pro_mid x0 x1 x2 x3 x4 x5 x6 x7 y0 ⟨1792 + y1.val, by omega⟩ (by show ¬ 1792 + y1.val < 1800; omega) (by show 1792 + y1.val < 1920; omega)).symm

theorem ref59 : val_main_v59 (F := Ideal) x0 x1 x2 x3 x4 x5 x6 x7 = Gp (c0 x0 x1) (c1 x2) (c2 x3) (c2 x4) (c4 x5) (c1 x6) (padw x7) 512 1920 (by decide) := by
  funext y
  idx_vars y
  pointwise [val_main_v59]
  simp only [raw_at]
  refine ((pro_hi x0 x1 x2 x3 x4 x5 x6 x7 y0 ⟨1920 + y1.val, by omega⟩ (by show ¬ 1920 + y1.val < 1920; omega)).trans (congrArg (raw x0 x1 x2 x3 x4 x5 x6 x7 y0) (Fin.ext ?_))).symm
  show 1920 + y1.val - 120 = 1800 + y1.val
  omega

variable (m : (ℓ : Loc nD τ sig) → Buf (Elt Ideal) ℓ) (c : Dev nD)

/-- The arguments, in the shapes the call takes them. -/
abbrev b0 : Vec Ideal Cert.Kernel2Ideal.S33024x1024 .f32 := c0 (m ((c : Thread nD τ).loc main_arg0)) (m ((c : Thread nD τ).loc main_arg1))
abbrev b1 : Vec Ideal Cert.Kernel2Ideal.S2x1x1024 .f32 := c1 (m ((c : Thread nD τ).loc main_arg2))
abbrev b2 : Vec Ideal Cert.Kernel2Ideal.S2x1024x2816 .bf16 := c2 (m ((c : Thread nD τ).loc main_arg3))
abbrev b3 : Vec Ideal Cert.Kernel2Ideal.S2x1024x2816 .bf16 := c2 (m ((c : Thread nD τ).loc main_arg4))
abbrev b4 : Vec Ideal Cert.Kernel2Ideal.S2x2816x1024 .bf16 := c4 (m ((c : Thread nD τ).loc main_arg5))
abbrev b5 : Vec Ideal Cert.Kernel2Ideal.S2x1x1024 .f32 := c1 (m ((c : Thread nD τ).loc main_arg6))
abbrev b6 : Vec Ideal Cert.Kernel2Ideal.S2x1024x2432 .bf16 := padw (m ((c : Thread nD τ).loc main_arg7))

/-- The reference's run: the eight arrays, the arguments as they were. -/
theorem run (g : Dev nD → PrngReg) : θ_run defs (onTc (τ := τ) (main (F := Ideal))) ⟨m, fun _ => 0, g⟩ fun r => ∀ c : Dev nD,
      r.2.mem ((c.tc : Thread nD τ).loc main_v33) = G7 (b0 m c) (b1 m c) (b2 m c) (b3 m c) (b4 m c)
      ∧ r.2.mem ((c.tc : Thread nD τ).loc main_v64) = Gq (b0 m c) (b1 m c) (b2 m c) (b3 m c) (b4 m c) (b5 m c) (b6 m c)
      ∧ r.2.mem ((c.tc : Thread nD τ).loc main_v65) = Gp (b0 m c) (b1 m c) (b2 m c) (b3 m c) (b4 m c) (b5 m c) (b6 m c) 256 256 (by decide)
      ∧ r.2.mem ((c.tc : Thread nD τ).loc main_v66) = Gp (b0 m c) (b1 m c) (b2 m c) (b3 m c) (b4 m c) (b5 m c) (b6 m c) 256 512 (by decide)
      ∧ r.2.mem ((c.tc : Thread nD τ).loc main_v55) = Gp (b0 m c) (b1 m c) (b2 m c) (b3 m c) (b4 m c) (b5 m c) (b6 m c) 768 768 (by decide)
      ∧ r.2.mem ((c.tc : Thread nD τ).loc main_v56) = Gp (b0 m c) (b1 m c) (b2 m c) (b3 m c) (b4 m c) (b5 m c) (b6 m c) 256 1536 (by decide)
      ∧ r.2.mem ((c.tc : Thread nD τ).loc main_v61) = Gp (b0 m c) (b1 m c) (b2 m c) (b3 m c) (b4 m c) (b5 m c) (b6 m c) 128 1792 (by decide)
      ∧ r.2.mem ((c.tc : Thread nD τ).loc main_v59) = Gp (b0 m c) (b1 m c) (b2 m c) (b3 m c) (b4 m c) (b5 m c) (b6 m c) 512 1920 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.Reference2Ideal.Value.run (F := Ideal) m g)
  obtain ⟨h0, h1, h2, h3, h4, h5, h6, h7, ha⟩ := h c
  exact ⟨h0.trans ((val_main_v33_eq m c).trans (ref33 _ _ _ _ _ _)),
    h1.trans ((val_main_v64_eq m c).trans (ref64 _ _ _ _ _ _ _ _)),
    h2.trans ((val_main_v65_eq m c).trans (ref65 _ _ _ _ _ _ _ _)),
    h3.trans ((val_main_v66_eq m c).trans (ref66 _ _ _ _ _ _ _ _)),
    h4.trans ((val_main_v55_eq m c).trans (ref55 _ _ _ _ _ _ _ _)),
    h5.trans ((val_main_v56_eq m c).trans (ref56 _ _ _ _ _ _ _ _)),
    h6.trans ((val_main_v61_eq m c).trans (ref61 _ _ _ _ _ _ _ _)),
    h7.trans ((val_main_v59_eq m c).trans (ref59 _ _ _ _ _ _ _ _)), ha⟩

end Cert.Reference2Ideal.Ffn

end
-- ==== Proof.Val3.Kernel.lean ====
/-
  The last layer's second half and the final norm, kernel's side: what one block of 1024 rows leaves.
-/
module

public import proofs.«01_k».proof.Proof.Gen.Kernel3Ideal.Frame
public import proofs.«01_k».proof.Proof.Val2.Kernel

@[expose] public section

set_option maxRecDepth 16384

noncomputable section

namespace Cert.Kernel3Ideal.Mix

open Cert.Kernel3Ideal Cert.Kernel3Ideal.Gen
open Cert.Kernel2Ideal.Ffn (cols rows cols_at rows_at cn ce ch)
open Idealize.ShloMosaic Idealize.ShloMosaic.TcCoe Idealize.SL.Sem
open Idealize.ShloMosaic.Pipeline (Dat)

section block

variable (x0 : Vec Ideal S1024x1024 .f32) (x1 x2 : Vec Ideal S1024x256 .bf16) (x3 : Vec Ideal S1024x512 .f32) (x4 : Vec Ideal S1x512x512 .bf16)
  (x5 x6 : Vec Ideal S1x1x512 .f32) (x7 : Vec Ideal S1x1024x1024 .bf16) (x8 : Vec Ideal S1x1x1024 .f32)
  (x9 x10 : Vec Ideal S1x1024x2816 .bf16) (x11 : Vec Ideal S1x2816x1024 .bf16) (x12 : Vec Ideal S1x1024 .f32)

/-- Rows `o` to `o + n` of the output projection. -/
def wrows (n : ℕ) (x : Vec Ideal S1x1024x1024 .bf16) (o : ℕ) (h : ∀ a, (![0, o, 0] : Fin 3 → ℕ) a + ![1, n, 1024] a ≤ S1x1024x1024.size a) :
    Vec Ideal ⟨3, ![1, n, 1024]⟩ .bf16 := View.ld x (Rect.unit ![0, o, 0] ![1, n, 1024] h)

theorem wrows_at (n : ℕ) (x : Vec Ideal S1x1024x1024 .bf16) (o : ℕ) (h) (k : Fin n) (j : Fin 1024) :
    wrows n x o h (ix3 0 k j) = x (ix3 0 ⟨o + k.val, by have := h 1; have := k.isLt; change o + n ≤ 1024 at *; omega⟩ j) := by
  unfold wrows
  pointwise []

/-- The state-space group's rows have 512 entries. -/
abbrev c5 : EReal := Ideal.ofBits .f32 0x44000000#32

/-- The state-space group's rows, gated and normalised. -/
abbrev o5 : FVec Ideal S1024x512 .bf16 := k0_pay2 x3 x4 x5 x6

/-- The rows with the groups mixed in. -/
abbrev hm : FVec Ideal S1024x1024 .f32 :=
  k0_pay4 (o5 x3 x4 x5 x6) (k0_pay3 x1 (wrows 256 x7 0 (by decide))) x2 (wrows 256 x7 256 (by decide)) (wrows 512 x7 512 (by decide)) x0

/-- Those rows, normalised. -/
abbrev xn : FVec Ideal S1024x1024 .bf16 :=
  k0_pay5 (o5 x3 x4 x5 x6) (k0_pay3 x1 (wrows 256 x7 0 (by decide))) x2 (wrows 256 x7 256 (by decide)) (wrows 512 x7 512 (by decide)) x0 x8

/-- The running sum after the last chunk. -/
def acc : FVec Ideal S1024x1024 .f32 :=
  let n := xn x0 x1 x2 x3 x4 x5 x6 x7 x8
  let a0 := k0_pay7 (k0_pay6 (o5 x3 x4 x5 x6) (k0_pay3 x1 (wrows 256 x7 0 (by decide))) x2 (wrows 256 x7 256 (by decide)) (wrows 512 x7 512 (by decide)) x0 x8 (cols x9 0 (by decide)) (cols x10 0 (by decide))) (rows x11 0 (by decide))
  let a1 := k0_pay8 n a0 (cols x9 256 (by decide)) (cols x10 256 (by decide)) (rows x11 256 (by decide))
  let a2 := k0_pay9 n a1 (cols x9 512 (by decide)) (cols x10 512 (by decide)) (rows x11 512 (by decide))
  let a3 := k0_pay11 a2 (k0_pay10 n (cols x9 768 (by decide)) (cols x10 768 (by decide)) (rows x11 768 (by decide)))
  let a4 := k0_pay12 n a3 (cols x9 1024 (by decide)) (cols x10 1024 (by decide)) (rows x11 1024 (by decide))
  let a5 := k0_pay14 n a4 (k0_pay13 n (cols x9 1280 (by decide))) (cols x10 1280 (by decide)) (rows x11 1280 (by decide))
  let a6 := k0_pay16 (k0_pay15 n a5 (cols x9 1536 (by decide)) (cols x10 1536 (by decide)) (rows x11 1536 (by decide)))
  let a7 := k0_pay17 n a6 (cols x9 1792 (by decide)) (cols x10 1792 (by decide)) (rows x11 1792 (by decide))
  let a8 := k0_pay19 n a7 (k0_pay18 n (cols x9 2048 (by decide))) (cols x10 2048 (by decide)) (rows x11 2048 (by decide))
  let a9 := k0_pay20 n a8 (cols x9 2304 (by decide)) (cols x10 2304 (by decide)) (rows x11 2304 (by decide))
  k0_pay21 n a9 (cols x9 2560 (by decide)) (cols x10 2560 (by decide)) (rows x11 2560 (by decide))

theorem o5_at (i : Fin 1024) (k : Fin 512) :
    o5 x3 x4 x5 x6 (ix2 i k) = Rows.unit5 c5 ce (fun k => x3 (ix2 i k)) (fun k f => x4 (ix3 0 k f)) (fun k => x5 (ix3 0 0 k))
      (fun k => x6 (ix3 0 0 k)) k := by
  pointwise [k0_pay2]
  rfl

theorem hm_at (i : Fin 1024) (j : Fin 1024) :
    hm x0 x1 x2 x3 x4 x5 x6 x7 (ix2 i j) = x0 (ix2 i j) + Rows.mix (fun k => x1 (ix2 i k)) (fun k => x2 (ix2 i k))
      (Rows.unit5 c5 ce (fun k => x3 (ix2 i k)) (fun k f => x4 (ix3 0 k f)) (fun k => x5 (ix3 0 0 k)) (fun k => x6 (ix3 0 0 k)))
      (fun k j => x7 (ix3 0 k j)) j := by
  pointwise [k0_pay4, k0_pay3]
  simp only [wrows_at, o5_at]
  rfl

theorem xn_at (i : Fin 1024) (j : Fin 1024) :
    xn x0 x1 x2 x3 x4 x5 x6 x7 x8 (ix2 i j) = Rows.rms cn ce (fun k => hm x0 x1 x2 x3 x4 x5 x6 x7 (ix2 i k)) (fun k => x8 (ix3 0 0 k)) j := by
  pointwise [k0_pay5]
  rfl

theorem acc_at (i : Fin 1024) (j : Fin 1024) :
    acc x0 x1 x2 x3 x4 x5 x6 x7 x8 x9 x10 x11 (ix2 i j) = Rows.mlp (fun k => xn x0 x1 x2 x3 x4 x5 x6 x7 x8 (ix2 i k))
      (fun k f => x9 (ix3 0 k f)) (fun k f => x10 (ix3 0 k f)) (fun f j => x11 (ix3 0 f j)) j := by
  unfold acc Rows.mlp Rows.lin
  rw [← Rows.sum_chunks]
  pointwise [k0_pay6, k0_pay7, k0_pay8, k0_pay9, k0_pay10, k0_pay11, k0_pay12, k0_pay13, k0_pay14, k0_pay15, k0_pay16, k0_pay17, k0_pay18, k0_pay19, k0_pay20, k0_pay21]
  simp only [cols_at, rows_at]
  rfl

/-- The block's rows after the half step. -/
abbrev hid : FVec Ideal S1024x1024 .f32 := k0_pay22 (hm x0 x1 x2 x3 x4 x5 x6 x7) (acc x0 x1 x2 x3 x4 x5 x6 x7 x8 x9 x10 x11)

theorem hid_at (i : Fin 1024) (j : Fin 1024) :
    hid x0 x1 x2 x3 x4 x5 x6 x7 x8 x9 x10 x11 (ix2 i j) = Rows.layer c5 cn ce ch (fun k => x0 (ix2 i k)) (fun k => x1 (ix2 i k))
      (fun k => x2 (ix2 i k)) (fun k => x3 (ix2 i k)) (fun k f => x4 (ix3 0 k f)) (fun k => x5 (ix3 0 0 k)) (fun k => x6 (ix3 0 0 k))
      (fun k j => x7 (ix3 0 k j)) (fun k => x8 (ix3 0 0 k)) (fun k f => x9 (ix3 0 k f)) (fun k f => x10 (ix3 0 k f))
      (fun f j => x11 (ix3 0 f j)) j := by
  pointwise [k0_pay22]
  rw [acc_at, funext fun k => xn_at x0 x1 x2 x3 x4 x5 x6 x7 x8 i k, hm_at, funext fun k => hm_at x0 x1 x2 x3 x4 x5 x6 x7 i k]
  rfl

/-- Those rows, normalised once more. -/
abbrev fin : FVec Ideal S1024x1024 .f32 :=
  k0_pay1 (hid x0 x1 x2 x3 x4 x5 x6 x7 x8 x9 x10 x11)
    (k0_pay23 (hm x0 x1 x2 x3 x4 x5 x6 x7) (acc x0 x1 x2 x3 x4 x5 x6 x7 x8 x9 x10 x11)) x12

theorem fin_at (i : Fin 1024) (j : Fin 1024) :
    fin x0 x1 x2 x3 x4 x5 x6 x7 x8 x9 x10 x11 x12 (ix2 i j)
      = Rows.rms cn ce (fun k => hid x0 x1 x2 x3 x4 x5 x6 x7 x8 x9 x10 x11 (ix2 i k)) (fun k => x12 (ix2 0 k)) j := by
  pointwise [k0_pay1, k0_pay23]
  rfl

end block

section out

variable (m : (ℓ : Loc nD τ sig) → Buf (Elt Ideal) ℓ) (c : Dev nD) (t : Fin cfg0.N)

/-- What the run leaves at a point of the grid. -/
theorem out13 : outsAt0 m c t = fin (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  dsimp only [outsAt0]
  frame_out
  rfl

end out

end Cert.Kernel3Ideal.Mix

end
-- ==== Proof.Val3.Final.lean ====
/-
  The last layer's second half and the final norm, kernel's side: the array it leaves.
-/
module

public import proofs.«01_k».proof.Proof.Val3.Kernel
public import Idealize.ShloMosaic.Lib.Claim
public import Idealize.ShloMosaic.Lib.StableHlo.RunRead

@[expose] public section

set_option maxRecDepth 16384

noncomputable section

namespace Cert.Kernel3Ideal.Mix

open Cert.Kernel3Ideal Cert.Kernel3Ideal.Gen
open Cert.Kernel2Ideal.Ffn (cn ce ch)
open Idealize.ShloMosaic Idealize.ShloMosaic.TcCoe Idealize.SL.Sem
open Idealize.ShloMosaic.Pipeline (Dat)

section arrays

variable (l : Fin 2)
variable (h : Vec Ideal S33024x1024 .f32) (sb dn : Vec Ideal S33024x256 .bf16) (y5 : Vec Ideal S33024x512 .f32) (w5 : Vec Ideal S2x512x512 .bf16)
  (b5 g5 : Vec Ideal S2x1x512 .f32) (wo : Vec Ideal S2x1024x1024 .bf16) (g : Vec Ideal S2x1x1024 .f32) (wg wu : Vec Ideal S2x1024x2816 .bf16)
  (wd : Vec Ideal S2x2816x1024 .bf16) (gf : Vec Ideal S1x1024 .f32)

/-- A token's row after layer `l`'s second half. -/
def row (p : Fin 33024) : Fin 1024 → EReal :=
  Rows.layer c5 cn ce ch (fun k => h (ix2 p k)) (fun k => sb (ix2 p k)) (fun k => dn (ix2 p k)) (fun k => y5 (ix2 p k))
    (fun k f => w5 (ix3 l k f)) (fun k => b5 (ix3 l 0 k)) (fun k => g5 (ix3 l 0 k)) (fun k j => wo (ix3 l k j)) (fun k => g (ix3 l 0 k))
    (fun k f => wg (ix3 l k f)) (fun k f => wu (ix3 l k f)) (fun f j => wd (ix3 l f j))

/-- The token of a row of the result: the first 128 of each sequence are dropped. -/
def tok (p : Fin 32768) : Fin 33024 := ⟨p.val / 16384 * 16512 + 128 + p.val % 16384, by omega⟩

/-- A token's row, normalised. -/
def frow (p : Fin 33024) : Fin 1024 → EReal := Rows.rms cn ce (row 1 h sb dn y5 w5 b5 g5 wo g wg wu wd p) (fun k => gf (ix2 0 k))

/-- The array of the rows kept. -/
def G : Vec Ideal S32768x1024 .f32 := fun y => frow h sb dn y5 w5 b5 g5 wo g wg wu wd gf (tok (y 0)) (y 1)

/-- The same rows by sequence and position. -/
def H : Vec Ideal S2x16384x1024 .f32 := fun y =>
  frow h sb dn y5 w5 b5 g5 wo g wg wu wd gf ⟨(y 0).val * 16512 + 128 + (y 1).val, by
    have h0 : (y 0).val < 2 := (y 0).isLt
    have h1 : (y 1).val < 16384 := (y 1).isLt
    omega⟩ (y 2)

end arrays

section final

variable (m : (ℓ : Loc nD τ sig) → Buf (Elt Ideal) ℓ) (c : Dev nD)

theorem idx : ∀ t : Fin cfg0.N, win0_0.index t = ![t.val / 16 * 16512 + 128 + t.val % 16 * 1024, 0] ∧ win0_1.index t = ![t.val / 16 * 16512 + 128 + t.val % 16 * 1024, 0] ∧ win0_2.index t = ![t.val / 16 * 16512 + 128 + t.val % 16 * 1024, 0] ∧ win0_3.index t = ![t.val / 16 * 16512 + 128 + t.val % 16 * 1024, 0]
    ∧ win0_4.index t = ![1, 0, 0] ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![1, 0, 0] ∧ win0_11.index t = ![1, 0, 0] ∧ win0_12.index t = ![0, 0] ∧ win0_13.index t = ![t.val, 0] :=
  (by decide +kernel : ∀ t : Fin grid0.N, _)

/-- The arguments, in the shapes the call takes them: a vector per layer as one row, a matrix as it is. -/
abbrev a0 : Vec Ideal S33024x1024 .f32 := m ((c : Thread nD τ).loc main_arg0)
abbrev a1 : Vec Ideal S33024x256 .bf16 := m ((c : Thread nD τ).loc main_arg1)
abbrev a2 : Vec Ideal S33024x256 .bf16 := m ((c : Thread nD τ).loc main_arg2)
abbrev a3 : Vec Ideal S33024x512 .f32 := m ((c : Thread nD τ).loc main_arg3)
abbrev a4 : Vec Ideal S2x512x512 .bf16 := fun y => ((m ((c : Thread nD τ).loc main_arg4)) : Vec Ideal S2x512x512 .f32) y
abbrev a5 : Vec Ideal S2x1x512 .f32 := fun y => ((m ((c : Thread nD τ).loc main_arg5)) : Vec Ideal S2x512 .f32) (ix2 (y 0) (y 2))
abbrev a6 : Vec Ideal S2x1x512 .f32 := fun y => ((m ((c : Thread nD τ).loc main_arg6)) : Vec Ideal S2x512 .f32) (ix2 (y 0) (y 2))
abbrev a7 : Vec Ideal S2x1024x1024 .bf16 := fun y => ((m ((c : Thread nD τ).loc main_arg7)) : Vec Ideal S2x1024x1024 .f32) y
abbrev a8 : Vec Ideal S2x1x1024 .f32 := fun y => ((m ((c : Thread nD τ).loc main_arg8)) : Vec Ideal S2x1024 .f32) (ix2 (y 0) (y 2))
abbrev a9 : Vec Ideal S2x1024x2816 .bf16 := fun y => ((m ((c : Thread nD τ).loc main_arg9)) : Vec Ideal S2x1024x2816 .f32) y
abbrev a10 : Vec Ideal S2x1024x2816 .bf16 := fun y => ((m ((c : Thread nD τ).loc main_arg10)) : Vec Ideal S2x1024x2816 .f32) y
abbrev a11 : Vec Ideal S2x2816x1024 .bf16 := fun y => ((m ((c : Thread nD τ).loc main_arg11)) : Vec Ideal S2x2816x1024 .f32) y
abbrev a12 : Vec Ideal S1x1024 .f32 := fun y => ((m ((c : Thread nD τ).loc main_arg12)) : Vec Ideal S1024 .f32) (ix1 (y 1))

theorem prep4 : (V m c main_v0 : Vec Ideal S2x512x512 .bf16) = a4 m c := by
  funext y
  entry_read
  rfl

theorem prep5 : (V m c main_v1 : Vec Ideal S2x1x512 .f32) = a5 m c := by
  funext y
  idx_vars y
  show StableHlo.after hostOps0 _ (Proc.devRef .tc main_v1) _ = _
  after_reads_simp
  pointwise
  rfl

theorem prep6 : (V m c main_v2 : Vec Ideal S2x1x512 .f32) = a6 m c := by
  funext y
  idx_vars y
  show StableHlo.after hostOps0 _ (Proc.devRef .tc main_v2) _ = _
  after_reads_simp
  pointwise
  rfl

theorem prep7 : (V m c main_v3 : Vec Ideal S2x1024x1024 .bf16) = a7 m c := by
  funext y
  entry_read
  rfl

theorem prep8 : (V m c main_v4 : Vec Ideal S2x1x1024 .f32) = a8 m c := by
  funext y
  idx_vars y
  show StableHlo.after hostOps0 _ (Proc.devRef .tc main_v4) _ = _
  after_reads_simp
  pointwise
  rfl

theorem prep9 : (V m c main_v5 : Vec Ideal S2x1024x2816 .bf16) = a9 m c := by
  funext y
  entry_read
  rfl

theorem prep10 : (V m c main_v6 : Vec Ideal S2x1024x2816 .bf16) = a10 m c := by
  funext y
  entry_read
  rfl

theorem prep11 : (V m c main_v7 : Vec Ideal S2x2816x1024 .bf16) = a11 m c := by
  funext y
  entry_read
  rfl

theorem prep12 : (V m c main_v8 : Vec Ideal S1x1024 .f32) = a12 m c := by
  funext y
  idx_vars y
  show StableHlo.after hostOps0 _ (Proc.devRef .tc main_v8) _ = _
  after_reads_simp
  pointwise
  rfl

theorem iblk0 (t : Fin cfg0.N) (i : Fin 1024) (k : Fin 1024) (p : Fin 33024) (hp : p.val = t.val / 16 * 16512 + 128 + t.val % 16 * 1024 + i.val) :
    (iblk m c 0 t : Vec Ideal S1024x1024 .f32) (ix2 i k) = a0 m c (ix2 p k) := by
  rw [a0, ← V_main_arg0 m c]
  blk_ext [iblk, idx t]
  all_goals refine (win0_0.rect_emb_val_off t (ix2 i k) _).trans ?_
  · show win0_0.index t 0 + i.val = p.val
    simp [idx t, hp]
  · show win0_0.index t 1 + k.val = k.val
    simp [idx t]

theorem iblk1 (t : Fin cfg0.N) (i : Fin 1024) (k : Fin 256) (p : Fin 33024) (hp : p.val = t.val / 16 * 16512 + 128 + t.val % 16 * 1024 + i.val) :
    (iblk m c 1 t : Vec Ideal S1024x256 .bf16) (ix2 i k) = a1 m c (ix2 p k) := by
  rw [a1, ← V_main_arg1 m c]
  blk_ext [iblk, idx t]
  all_goals refine (win0_1.rect_emb_val_off t (ix2 i k) _).trans ?_
  · show win0_1.index t 0 + i.val = p.val
    simp [idx t, hp]
  · show win0_1.index t 1 + k.val = k.val
    simp [idx t]

theorem iblk2 (t : Fin cfg0.N) (i : Fin 1024) (k : Fin 256) (p : Fin 33024) (hp : p.val = t.val / 16 * 16512 + 128 + t.val % 16 * 1024 + i.val) :
    (iblk m c 2 t : Vec Ideal S1024x256 .bf16) (ix2 i k) = a2 m c (ix2 p k) := by
  rw [a2, ← V_main_arg2 m c]
  blk_ext [iblk, idx t]
  all_goals refine (win0_2.rect_emb_val_off t (ix2 i k) _).trans ?_
  · show win0_2.index t 0 + i.val = p.val
    simp [idx t, hp]
  · show win0_2.index t 1 + k.val = k.val
    simp [idx t]

theorem iblk3 (t : Fin cfg0.N) (i : Fin 1024) (k : Fin 512) (p : Fin 33024) (hp : p.val = t.val / 16 * 16512 + 128 + t.val % 16 * 1024 + i.val) :
    (iblk m c 3 t : Vec Ideal S1024x512 .f32) (ix2 i k) = a3 m c (ix2 p k) := by
  rw [a3, ← V_main_arg3 m c]
  blk_ext [iblk, idx t]
  all_goals refine (win0_3.rect_emb_val_off t (ix2 i k) _).trans ?_
  · show win0_3.index t 0 + i.val = p.val
    simp [idx t, hp]
  · show win0_3.index t 1 + k.val = k.val
    simp [idx t]

theorem iblk4 (t : Fin cfg0.N) (k f : Fin 512) :
    (iblk m c 4 t : Vec Ideal S1x512x512 .bf16) (ix3 0 k f) = a4 m c (ix3 1 k f) := by
  rw [← prep4 m c]
  blk_ext [iblk, idx t]

theorem iblk5 (t : Fin cfg0.N) (k : Fin 512) :
    (iblk m c 5 t : Vec Ideal S1x1x512 .f32) (ix3 0 0 k) = a5 m c (ix3 1 0 k) := by
  rw [← prep5 m c]
  blk_ext [iblk, idx t]

theorem iblk6 (t : Fin cfg0.N) (k : Fin 512) :
    (iblk m c 6 t : Vec Ideal S1x1x512 .f32) (ix3 0 0 k) = a6 m c (ix3 1 0 k) := by
  rw [← prep6 m c]
  blk_ext [iblk, idx t]

theorem iblk7 (t : Fin cfg0.N) (k f : Fin 1024) :
    (iblk m c 7 t : Vec Ideal S1x1024x1024 .bf16) (ix3 0 k f) = a7 m c (ix3 1 k f) := by
  rw [← prep7 m c]
  blk_ext [iblk, idx t]

theorem iblk8 (t : Fin cfg0.N) (k : Fin 1024) :
    (iblk m c 8 t : Vec Ideal S1x1x1024 .f32) (ix3 0 0 k) = a8 m c (ix3 1 0 k) := by
  rw [← prep8 m c]
  blk_ext [iblk, idx t]

theorem iblk9 (t : Fin cfg0.N) (k : Fin 1024) (f : Fin 2816) :
    (iblk m c 9 t : Vec Ideal S1x1024x2816 .bf16) (ix3 0 k f) = a9 m c (ix3 1 k f) := by
  rw [← prep9 m c]
  blk_ext [iblk, idx t]

theorem iblk10 (t : Fin cfg0.N) (k : Fin 1024) (f : Fin 2816) :
    (iblk m c 10 t : Vec Ideal S1x1024x2816 .bf16) (ix3 0 k f) = a10 m c (ix3 1 k f) := by
  rw [← prep10 m c]
  blk_ext [iblk, idx t]

theorem iblk11 (t : Fin cfg0.N) (f : Fin 2816) (j : Fin 1024) :
    (iblk m c 11 t : Vec Ideal S1x2816x1024 .bf16) (ix3 0 f j) = a11 m c (ix3 1 f j) := by
  rw [← prep11 m c]
  blk_ext [iblk, idx t]

theorem iblk12 (t : Fin cfg0.N) (k : Fin 1024) :
    (iblk m c 12 t : Vec Ideal S1x1024 .f32) (ix2 0 k) = a12 m c (ix2 0 k) := by
  rw [← prep12 m c]
  blk_ext [iblk, idx t]

theorem hid_row (t : Fin cfg0.N) (i : Fin 1024) (j : Fin 1024) (p : Fin 33024) (hp : p.val = t.val / 16 * 16512 + 128 + t.val % 16 * 1024 + i.val) :
    hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = row 1 (a0 m c) (a1 m c) (a2 m c) (a3 m c) (a4 m c) (a5 m c) (a6 m c) (a7 m c) (a8 m c) (a9 m c) (a10 m c) (a11 m c) p j := by
  refine (hid_at _ _ _ _ _ _ _ _ _ _ _ _ i j).trans ?_
  unfold row
  simp only [iblk0 m c t i _ p hp, iblk1 m c t i _ p hp, iblk2 m c t i _ p hp, iblk3 m c t i _ p hp, iblk4, iblk5, iblk6, iblk7, iblk8, iblk9, iblk10, iblk11]

theorem final13 : (dats m 0 c).arrAt 13 (cfgs 0).N = G (a0 m c) (a1 m c) (a2 m c) (a3 m c) (a4 m c) (a5 m c) (a6 m c) (a7 m c) (a8 m c) (a9 m c) (a10 m c) (a11 m c) (a12 m c) := by
  refine (dats m 0 c).arrAt_eq_of_covers 13 _ (by decide +kernel) fun t _ y => ?_
  blk_simp
  rw [after0_13, out13]
  idx_vars y
  refine (fin_at _ _ _ _ _ _ _ _ _ _ _ _ _ y0 y1).trans ?_
  have ht := (show ∀ t : Fin cfg0.N, t.val < 32 from (by decide +kernel : ∀ t : Fin grid0.N, t.val < 32)) t
  rw [funext fun k => hid_row m c t y0 k (tok ⟨t.val * 1024 + y0.val, by omega⟩) (by show _ / 16384 * 16512 + 128 + _ % 16384 = _; simp only; omega),
    funext fun k => iblk12 m c t k]
  unfold G frow
  refine congrArg₂ (fun p q => Rows.rms cn ce (row 1 (a0 m c) (a1 m c) (a2 m c) (a3 m c) (a4 m c) (a5 m c) (a6 m c) (a7 m c) (a8 m c) (a9 m c) (a10 m c) (a11 m c) (tok p)) _ q) (Fin.ext ?_) (Fin.ext ?_)
  all_goals (blk_simp [idx t] <;> try omega)

/-- The reshape after the call. -/
theorem tail (c : Dev nD) : (Pipeline.afterTail₀ cfgs (dats m) 0 (V0 m) [hostOps1] c main_v10 : Vec Ideal S2x16384x1024 .f32) = H (a0 m c) (a1 m c) (a2 m c) (a3 m c) (a4 m c) (a5 m c) (a6 m c) (a7 m c) (a8 m c) (a9 m c) (a10 m c) (a11 m c) (a12 m c) := by
  have e : Pipeline.withArrays (cfgs 0).spec c (V0 m c) (fun w => (dats m 0 c).arrAt w (cfgs 0).N) (Proc.devRef .tc main_v9) = (dats m 0 c).arrAt 13 (cfgs 0).N :=
    Pipeline.withArrays_arr (cfgs 0).spec (by decide +kernel) c (V0 m c) (fun w => (dats m 0 c).arrAt w (cfgs 0).N) 13
  funext y
  idx_vars y
  unfold Pipeline.afterTail₀
  show StableHlo.after hostOps1 _ (Proc.devRef .tc main_v10) (ix3 y0 y1 y2) = _
  after_reads_simp
  rw [e, final13]
  pointwise
  refine congrArg₂ (frow (a0 m c) (a1 m c) (a2 m c) (a3 m c) (a4 m c) (a5 m c) (a6 m c) (a7 m c) (a8 m c) (a9 m c) (a10 m c) (a11 m c) (a12 m c)) (Fin.ext ?_) (Fin.ext ?_)
  · show (y0.val * 16384 + y1.val) / 16384 * 16512 + 128 + (y0.val * 16384 + y1.val) % 16384 = y0.val * 16512 + 128 + y1.val
    omega
  · rfl

/-- The kernel's run: the array, the arguments as they were. -/
theorem run (g : Dev nD → PrngReg) : θ_run defs (onTc (τ := τ) (main (F := Ideal))) ⟨m, fun _ => 0, g⟩ fun r => ∀ c : Dev nD,
      r.2.mem ((c.tc : Thread nD τ).loc main_v10) = H (a0 m c) (a1 m c) (a2 m c) (a3 m c) (a4 m c) (a5 m c) (a6 m c) (a7 m c) (a8 m c) (a9 m c) (a10 m c) (a11 m c) (a12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run _ _ _).mono (fun r h c => ?_) (θ_run_and (Cert.Kernel3Ideal.Gen.run_main m g) (Cert.Kernel3Ideal.Gen.unchanged m g))
  obtain ⟨h, ha⟩ := h
  exact ⟨((h c).2 main_v10 (Pipeline.mem_restRefs_of _ (by decide) (by decide +kernel))).trans (tail m c), ha c⟩

end final

end Cert.Kernel3Ideal.Mix

end
-- ==== Proof.Val3.Ref.lean ====
/-
  The last layer's second half and the final norm, reference's side: the same array.
-/
module

public import proofs.«01_k».proof.Proof.Val3.Final
public import proofs.«01_k».proof.Proof.Gen.Reference3Ideal.Read

@[expose] public section

set_option maxRecDepth 16384

noncomputable section

namespace Cert.Reference3Ideal.Mix

open Cert.Reference3Ideal Cert.Reference3Ideal.Gen
open Cert.Reference3Ideal.Read
open Cert.Kernel2Ideal.Ffn (cn ce ch)
open Cert.Kernel3Ideal.Mix (c5 row frow H)
open Idealize.ShloMosaic Idealize.ShloMosaic.TcCoe Idealize.SL.Sem

variable (x0 : Vec Ideal S33024x1024 .f32) (x1 x2 : Vec Ideal S33024x256 .bf16) (x3 : Vec Ideal S33024x512 .f32) (x4 : Vec Ideal S2x512x512 .f32)
  (x5 x6 : Vec Ideal S2x512 .f32) (x7 : Vec Ideal S2x1024x1024 .f32) (x8 : Vec Ideal S2x1024 .f32) (x9 x10 : Vec Ideal S2x1024x2816 .f32)
  (x11 : Vec Ideal S2x2816x1024 .f32) (x12 : Vec Ideal S1024 .f32) (p : Fin 33024)

theorem gated_at (k : Fin 512) :
    val_main_v14 (F := Ideal) x3 x4 x5 (ix2 p k) = x3 (ix2 p k) * Ideal.logistic (Rows.lin (fun k => x3 (ix2 p k)) (fun k f => x4 (ix3 1 k f)) k
      + x5 (ix2 1 k)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

theorem o5_at (k : Fin 512) :
    val_main_v29 (F := Ideal) x3 x4 x5 x6 (ix2 p k) = Rows.unit5 c5 ce (fun k => x3 (ix2 p k)) (fun k f => x4 (ix3 1 k f)) (fun k => x5 (ix2 1 k)) (fun k => x6 (ix2 1 k)) k := by
  pointwise [val_main_v29, val_main_v28, val_main_v27, val_main_v26, val_main_v25, val_main_v24, val_main_v23, val_main_v22, val_main_v21, val_main_v20, val_main_v19, val_main_v18, val_main_v17, val_main_v16, val_main_v15, val_main_cst_1, val_main_cst_2, val_main_cst_3]
  simp only [gated_at]
  rfl

theorem cat_sb (k : Fin 256) : val_main_v32 (F := Ideal) x1 x2 x3 x4 x5 x6 (ix2 p ⟨0 + k, by omega⟩) = x1 (ix2 p k) := by
  pointwise [val_main_v32, val_main_v30]

theorem cat_dn (k : Fin 256) : val_main_v32 (F := Ideal) x1 x2 x3 x4 x5 x6 (ix2 p ⟨256 + k, by omega⟩) = x2 (ix2 p k) := by
  pointwise [val_main_v32, val_main_v31]

theorem cat_s5 (k : Fin 512) :
    val_main_v32 (F := Ideal) x1 x2 x3 x4 x5 x6 (ix2 p ⟨512 + k, by omega⟩) = val_main_v29 (F := Ideal) x3 x4 x5 x6 (ix2 p k) := by
  pointwise [val_main_v32]
  rw [dif_neg (by omega), dif_neg (by omega)]
  exact congrArg (fun k => val_main_v29 (F := Ideal) x3 x4 x5 x6 (ix2 p k)) (Fin.ext (by show 512 + k.val - 256 - 256 = k.val; omega))

theorem mixed_at (j : Fin 1024) :
    val_main_v36 (F := Ideal) x0 x1 x2 x3 x4 x5 x6 x7 (ix2 p j) = x0 (ix2 p j) + Rows.mix (fun k => x1 (ix2 p k)) (fun k => x2 (ix2 p k))
      (Rows.unit5 c5 ce (fun k => x3 (ix2 p k)) (fun k f => x4 (ix3 1 k f)) (fun k => x5 (ix2 1 k)) (fun k => x6 (ix2 1 k))) (fun k j => x7 (ix3 1 k j)) j := by
  have h := Rows.lin_mix (fun k => val_main_v32 (F := Ideal) x1 x2 x3 x4 x5 x6 (ix2 p k)) (fun k j => x7 (ix3 1 k j)) j
  simp only [cat_sb, cat_dn, cat_s5, o5_at] at h
  pointwise [val_main_v36, val_main_v35, val_main_v34, val_main_v33]
  exact congrArg (x0 (ix2 p j) + ·) h

theorem xn_at (j : Fin 1024) :
    val_main_v51 (F := Ideal) x0 x1 x2 x3 x4 x5 x6 x7 x8 (ix2 p j)
      = Rows.rms cn ce (fun k => val_main_v36 (F := Ideal) x0 x1 x2 x3 x4 x5 x6 x7 (ix2 p k)) (fun k => x8 (ix2 1 k)) j := by
  pointwise [val_main_v51, val_main_v50, val_main_v49, val_main_v48, val_main_v47, val_main_v46, val_main_v45, val_main_v44, val_main_v43, val_main_v42, val_main_v41, val_main_v40, val_main_v39, val_main_v38, val_main_v37, val_main_cst_4, val_main_cst_5, val_main_cst_6]
  rfl

theorem act_at (f : Fin 2816) :
    val_main_v61 (F := Ideal) x0 x1 x2 x3 x4 x5 x6 x7 x8 x9 x10 (ix2 p f)
      = Rows.act (fun k => val_main_v51 (F := Ideal) x0 x1 x2 x3 x4 x5 x6 x7 x8 (ix2 p k)) (fun k f => x9 (ix3 1 k f))
        (fun k f => x10 (ix3 1 k f)) f := by
  pointwise [val_main_v61, val_main_v60, val_main_v59, val_main_v58, val_main_v55, val_main_v54, val_main_v53, val_main_v52, val_main_call0_v5, val_main_call0_v4,
    val_main_call0_v3, val_main_call0_v2, val_main_call0_v1, val_main_call0_v0, val_main_call0_cst, val_main_call0_cst_0]
  rfl

theorem row_at (j : Fin 1024) : val_main_v65 (F := Ideal) x0 x1 x2 x3 x4 x5 x6 x7 x8 x9 x10 x11 (ix2 p j) = row 1 x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) p j := by
  pointwise [val_main_v65, val_main_v64, val_main_v63, val_main_v62, val_main_v57, val_main_v56, val_main_cst_7]
  simp only [act_at, xn_at, mixed_at]
  rfl

theorem fin_at (j : Fin 1024) : val_main_v78 (F := Ideal) x0 x1 x2 x3 x4 x5 x6 x7 x8 x9 x10 x11 x12 (ix2 p j) = frow x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) (fun y => x12 (ix1 (y 1))) p j := by
  pointwise [val_main_v78, val_main_v77, val_main_v76, val_main_v75, val_main_v74, val_main_v73, val_main_v72, val_main_v71, val_main_v70, val_main_v69, val_main_v68, val_main_v67, val_main_v66, val_main_cst_8, val_main_cst_9, val_main_cst_10]
  simp only [row_at]
  rfl

theorem ref : val_main_v80 (F := Ideal) x0 x1 x2 x3 x4 x5 x6 x7 x8 x9 x10 x11 x12 = H x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) (fun y => x12 (ix1 (y 1))) := by
  funext y
  idx_vars y
  pointwise [val_main_v80, val_main_v79]
  refine (fin_at x0 x1 x2 x3 x4 x5 x6 x7 x8 x9 x10 x11 x12 _ _).trans ?_
  exact congrArg₂ (frow x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) (fun y => x12 (ix1 (y 1)))) (Fin.ext (by show _ = y0.val * 16512 + 128 + y1.val; simp; omega)) (Fin.ext (by simp))

variable (m : (ℓ : Loc nD τ sig) → Buf (Elt Ideal) ℓ) (c : Dev nD)

/-- The arguments. -/
abbrev b0 : Vec Ideal S33024x1024 .f32 := m ((c : Thread nD τ).loc main_arg0)
abbrev b1 : Vec Ideal S33024x256 .bf16 := m ((c : Thread nD τ).loc main_arg1)
abbrev b2 : Vec Ideal S33024x256 .bf16 := m ((c : Thread nD τ).loc main_arg2)
abbrev b3 : Vec Ideal S33024x512 .f32 := m ((c : Thread nD τ).loc main_arg3)
abbrev b4 : Vec Ideal Cert.Kernel3Ideal.S2x512x512 .bf16 := fun y => (m ((c : Thread nD τ).loc main_arg4) : Vec Ideal S2x512x512 .f32) y
abbrev b5 : Vec Ideal Cert.Kernel3Ideal.S2x1x512 .f32 := fun y => (m ((c : Thread nD τ).loc main_arg5) : Vec Ideal S2x512 .f32) (ix2 (y 0) (y 2))
abbrev b6 : Vec Ideal Cert.Kernel3Ideal.S2x1x512 .f32 := fun y => (m ((c : Thread nD τ).loc main_arg6) : Vec Ideal S2x512 .f32) (ix2 (y 0) (y 2))
abbrev b7 : Vec Ideal Cert.Kernel3Ideal.S2x1024x1024 .bf16 := fun y => (m ((c : Thread nD τ).loc main_arg7) : Vec Ideal S2x1024x1024 .f32) y
abbrev b8 : Vec Ideal Cert.Kernel3Ideal.S2x1x1024 .f32 := fun y => (m ((c : Thread nD τ).loc main_arg8) : Vec Ideal S2x1024 .f32) (ix2 (y 0) (y 2))
abbrev b9 : Vec Ideal Cert.Kernel3Ideal.S2x1024x2816 .bf16 := fun y => (m ((c : Thread nD τ).loc main_arg9) : Vec Ideal S2x1024x2816 .f32) y
abbrev b10 : Vec Ideal Cert.Kernel3Ideal.S2x1024x2816 .bf16 := fun y => (m ((c : Thread nD τ).loc main_arg10) : Vec Ideal S2x1024x2816 .f32) y
abbrev b11 : Vec Ideal Cert.Kernel3Ideal.S2x2816x1024 .bf16 := fun y => (m ((c : Thread nD τ).loc main_arg11) : Vec Ideal S2x2816x1024 .f32) y
abbrev b12 : Vec Ideal Cert.Kernel3Ideal.S1x1024 .f32 := fun y => (m ((c : Thread nD τ).loc main_arg12) : Vec Ideal S1024 .f32) (ix1 (y 1))

/-- The reference's run: the array, the arguments as they were. -/
theorem run (g : Dev nD → PrngReg) : θ_run defs (onTc (τ := τ) (main (F := Ideal))) ⟨m, fun _ => 0, g⟩ fun r => ∀ c : Dev nD,
      r.2.mem ((c.tc : Thread nD τ).loc main_v80) = H (b0 m c) (b1 m c) (b2 m c) (b3 m c) (b4 m c) (b5 m c) (b6 m c) (b7 m c) (b8 m c) (b9 m c) (b10 m c) (b11 m c) (b12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run _ _ _).mono (fun r h c => ?_) (Cert.Reference3Ideal.Value.run (F := Ideal) m g)
  exact ⟨(h c).1.trans ((val_main_v80_eq (Idealize.ShloMosaic.StableHlo.launchContents m c)).trans (ref _ _ _ _ _ _ _ _ _ _ _ _ _)), (h c).2⟩

end Cert.Reference3Ideal.Mix

end
-- ==== Proof.Val4.Kernel.lean ====
/-
  A layer's second half, kernel's side: what one block of 768 rows leaves.
-/
module

public import proofs.«01_k».proof.Proof.Gen.Kernel4Ideal.Frame
public import proofs.«01_k».proof.Proof.Val3.Kernel

@[expose] public section

set_option maxRecDepth 16384

noncomputable section

namespace Cert.Kernel4Ideal.Mix

open Cert.Kernel4Ideal Cert.Kernel4Ideal.Gen
open Cert.Kernel2Ideal.Ffn (cols rows cols_at rows_at cn ce ch)
open Cert.Kernel3Ideal.Mix (wrows wrows_at c5)
open Idealize.ShloMosaic Idealize.ShloMosaic.TcCoe Idealize.SL.Sem
open Idealize.ShloMosaic.Pipeline (Dat)

section block

variable (x0 : Vec Ideal S768x1024 .f32) (x1 x2 : Vec Ideal S768x256 .bf16) (x3 : Vec Ideal S768x512 .f32) (x4 : Vec Ideal S1x512x512 .bf16)
  (x5 x6 : Vec Ideal S1x1x512 .f32) (x7 : Vec Ideal S1x1024x1024 .bf16) (x8 : Vec Ideal S1x1x1024 .f32)
  (x9 x10 : Vec Ideal S1x1024x2816 .bf16) (x11 : Vec Ideal S1x2816x1024 .bf16)

/-- The state-space group's rows, gated and normalised. -/
abbrev o5 : FVec Ideal S768x512 .bf16 := k0_pay3 x3 x4 x5 x6

/-- The rows with the groups mixed in. -/
abbrev hm : FVec Ideal S768x1024 .f32 :=
  k0_pay6 (o5 x3 x4 x5 x6) (k0_pay4 x1 (wrows 256 x7 0 (by decide))) x2 (k0_pay5 (wrows 256 x7 256 (by decide))) (wrows 512 x7 512 (by decide)) x0

/-- Those rows, normalised. -/
abbrev xn : FVec Ideal S768x1024 .bf16 :=
  k0_pay7 (o5 x3 x4 x5 x6) (k0_pay4 x1 (wrows 256 x7 0 (by decide))) x2 (k0_pay5 (wrows 256 x7 256 (by decide))) (wrows 512 x7 512 (by decide)) x0 x8

/-- The running sum after the last chunk. -/
def acc : FVec Ideal S768x1024 .f32 :=
  let n := xn x0 x1 x2 x3 x4 x5 x6 x7 x8
  let a0 := k0_pay9 (k0_pay8 (o5 x3 x4 x5 x6) (k0_pay4 x1 (wrows 256 x7 0 (by decide))) x2 (k0_pay5 (wrows 256 x7 256 (by decide))) (wrows 512 x7 512 (by decide)) x0 x8 (cols x9 0 (by decide)) (cols x10 0 (by decide))) (rows x11 0 (by decide))
  let a1 := k0_pay10 n a0 (cols x9 256 (by decide)) (cols x10 256 (by decide)) (rows x11 256 (by decide))
  let a2 := k0_pay12 n a1 (k0_pay11 (cols x9 512 (by decide))) (cols x10 512 (by decide)) (rows x11 512 (by decide))
  let a3 := k0_pay14 (k0_pay13 n a2 (cols x9 768 (by decide)) (cols x10 768 (by decide)) (rows x11 768 (by decide)))
  let a4 := k0_pay15 n a3 (cols x9 1024 (by decide)) (cols x10 1024 (by decide)) (rows x11 1024 (by decide))
  let a5 := k0_pay17 n a4 (k0_pay16 n (cols x9 1280 (by decide))) (cols x10 1280 (by decide)) (rows x11 1280 (by decide))
  let a6 := k0_pay19 (k0_pay18 n a5 (cols x9 1536 (by decide)) (cols x10 1536 (by decide)) (rows x11 1536 (by decide)))
  let a7 := k0_pay20 n a6 (cols x9 1792 (by decide)) (cols x10 1792 (by decide)) (rows x11 1792 (by decide))
  let a8 := k0_pay22 n a7 (k0_pay21 n (cols x9 2048 (by decide))) (cols x10 2048 (by decide)) (rows x11 2048 (by decide))
  let a9 := k0_pay23 n a8 (cols x9 2304 (by decide)) (cols x10 2304 (by decide)) (rows x11 2304 (by decide))
  k0_pay1 n a9 (cols x9 2560 (by decide)) (cols x10 2560 (by decide)) (rows x11 2560 (by decide))

theorem o5_at (i : Fin 768) (k : Fin 512) :
    o5 x3 x4 x5 x6 (ix2 i k) = Rows.unit5 c5 ce (fun k => x3 (ix2 i k)) (fun k f => x4 (ix3 0 k f)) (fun k => x5 (ix3 0 0 k))
      (fun k => x6 (ix3 0 0 k)) k := by
  pointwise [k0_pay3]
  rfl

theorem hm_at (i : Fin 768) (j : Fin 1024) :
    hm x0 x1 x2 x3 x4 x5 x6 x7 (ix2 i j) = x0 (ix2 i j) + Rows.mix (fun k => x1 (ix2 i k)) (fun k => x2 (ix2 i k))
      (Rows.unit5 c5 ce (fun k => x3 (ix2 i k)) (fun k f => x4 (ix3 0 k f)) (fun k => x5 (ix3 0 0 k)) (fun k => x6 (ix3 0 0 k)))
      (fun k j => x7 (ix3 0 k j)) j := by
  pointwise [k0_pay6, k0_pay5, k0_pay4]
  simp only [wrows_at, o5_at]
  rfl

theorem xn_at (i : Fin 768) (j : Fin 1024) :
    xn x0 x1 x2 x3 x4 x5 x6 x7 x8 (ix2 i j) = Rows.rms cn ce (fun k => hm x0 x1 x2 x3 x4 x5 x6 x7 (ix2 i k)) (fun k => x8 (ix3 0 0 k)) j := by
  pointwise [k0_pay7]
  rfl

theorem acc_at (i : Fin 768) (j : Fin 1024) :
    acc x0 x1 x2 x3 x4 x5 x6 x7 x8 x9 x10 x11 (ix2 i j) = Rows.mlp (fun k => xn x0 x1 x2 x3 x4 x5 x6 x7 x8 (ix2 i k))
      (fun k f => x9 (ix3 0 k f)) (fun k f => x10 (ix3 0 k f)) (fun f j => x11 (ix3 0 f j)) j := by
  unfold acc Rows.mlp Rows.lin
  rw [← Rows.sum_chunks]
  pointwise [k0_pay1, k0_pay8, k0_pay9, k0_pay10, k0_pay11, k0_pay12, k0_pay13, k0_pay14, k0_pay15, k0_pay16, k0_pay17, k0_pay18, k0_pay19, k0_pay20, k0_pay21, k0_pay22, k0_pay23]
  simp only [cols_at, rows_at]
  rfl

/-- The block's rows after the half step. -/
abbrev hid : FVec Ideal S768x1024 .f32 := k0_pay2 (hm x0 x1 x2 x3 x4 x5 x6 x7) (acc x0 x1 x2 x3 x4 x5 x6 x7 x8 x9 x10 x11)

theorem hid_at (i : Fin 768) (j : Fin 1024) :
    hid x0 x1 x2 x3 x4 x5 x6 x7 x8 x9 x10 x11 (ix2 i j) = Rows.layer c5 cn ce ch (fun k => x0 (ix2 i k)) (fun k => x1 (ix2 i k))
      (fun k => x2 (ix2 i k)) (fun k => x3 (ix2 i k)) (fun k f => x4 (ix3 0 k f)) (fun k => x5 (ix3 0 0 k)) (fun k => x6 (ix3 0 0 k))
      (fun k j => x7 (ix3 0 k j)) (fun k => x8 (ix3 0 0 k)) (fun k f => x9 (ix3 0 k f)) (fun k f => x10 (ix3 0 k f))
      (fun f j => x11 (ix3 0 f j)) j := by
  pointwise [k0_pay2]
  rw [acc_at, funext fun k => xn_at x0 x1 x2 x3 x4 x5 x6 x7 x8 i k, hm_at, funext fun k => hm_at x0 x1 x2 x3 x4 x5 x6 x7 i k]
  rfl

end block

section out

variable (m : (ℓ : Loc nD τ sig) → Buf (Elt Ideal) ℓ) (c : Dev nD) (t : Fin cfg0.N)

/-- What the run leaves at a point of the grid. -/
theorem out12 : outsAt0 m c t = hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  dsimp only [outsAt0]
  frame_out
  rfl

end out

end Cert.Kernel4Ideal.Mix

end
-- ==== Proof.Val4.Final.lean ====
/-
  A layer's second half, kernel's side: the array it leaves.
-/
module

public import proofs.«01_k».proof.Proof.Val4.Kernel
public import proofs.«01_k».proof.Proof.Val3.Final

@[expose] public section

set_option maxRecDepth 16384

noncomputable section

namespace Cert.Kernel4Ideal.Mix

open Cert.Kernel4Ideal Cert.Kernel4Ideal.Gen
open Cert.Kernel2Ideal.Ffn (cn ce ch)
open Cert.Kernel3Ideal.Mix (c5 row)
open Idealize.ShloMosaic Idealize.ShloMosaic.TcCoe Idealize.SL.Sem
open Idealize.ShloMosaic.Pipeline (Dat)

/-- The array of the rows. -/
def G (h : Vec Ideal S33024x1024 .f32) (sb dn : Vec Ideal S33024x256 .bf16) (y5 : Vec Ideal S33024x512 .f32) (w5 : Vec Ideal S2x512x512 .bf16)
  (b5 g5 : Vec Ideal S2x1x512 .f32) (wo : Vec Ideal S2x1024x1024 .bf16) (g : Vec Ideal S2x1x1024 .f32) (wg wu : Vec Ideal S2x1024x2816 .bf16)
  (wd : Vec Ideal S2x2816x1024 .bf16) :
    Vec Ideal S33024x1024 .f32 := fun y => row 0 h sb dn y5 w5 b5 g5 wo g wg wu wd (y 0) (y 1)

section final

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![0, 0, 0] ∧ win0_5.index t = ![0, 0, 0] ∧ win0_6.index t = ![0, 0, 0] ∧ win0_7.index t = ![0, 0, 0]
    ∧ win0_8.index t = ![0, 0, 0] ∧ win0_9.index t = ![0, 0, 0] ∧ win0_10.index t = ![0, 0, 0] ∧ win0_11.index t = ![0, 0, 0] ∧ win0_12.index t = ![t.val, 0] :=
  (by decide +kernel : ∀ t : Fin grid0.N, _)

/-- The arguments, in the shapes the call takes them: a vector per layer as one row, a matrix as it is. -/
abbrev a0 : Vec Ideal S33024x1024 .f32 := m ((c : Thread nD τ).loc main_arg0)
abbrev a1 : Vec Ideal S33024x256 .bf16 := m ((c : Thread nD τ).loc main_arg1)
abbrev a2 : Vec Ideal S33024x256 .bf16 := m ((c : Thread nD τ).loc main_arg2)
abbrev a3 : Vec Ideal S33024x512 .f32 := m ((c : Thread nD τ).loc main_arg3)
abbrev a4 : Vec Ideal S2x512x512 .bf16 := fun y => ((m ((c : Thread nD τ).loc main_arg4)) : Vec Ideal S2x512x512 .f32) y
abbrev a5 : Vec Ideal S2x1x512 .f32 := fun y => ((m ((c : Thread nD τ).loc main_arg5)) : Vec Ideal S2x512 .f32) (ix2 (y 0) (y 2))
abbrev a6 : Vec Ideal S2x1x512 .f32 := fun y => ((m ((c : Thread nD τ).loc main_arg6)) : Vec Ideal S2x512 .f32) (ix2 (y 0) (y 2))
abbrev a7 : Vec Ideal S2x1024x1024 .bf16 := fun y => ((m ((c : Thread nD τ).loc main_arg7)) : Vec Ideal S2x1024x1024 .f32) y
abbrev a8 : Vec Ideal S2x1x1024 .f32 := fun y => ((m ((c : Thread nD τ).loc main_arg8)) : Vec Ideal S2x1024 .f32) (ix2 (y 0) (y 2))
abbrev a9 : Vec Ideal S2x1024x2816 .bf16 := fun y => ((m ((c : Thread nD τ).loc main_arg9)) : Vec Ideal S2x1024x2816 .f32) y
abbrev a10 : Vec Ideal S2x1024x2816 .bf16 := fun y => ((m ((c : Thread nD τ).loc main_arg10)) : Vec Ideal S2x1024x2816 .f32) y
abbrev a11 : Vec Ideal S2x2816x1024 .bf16 := fun y => ((m ((c : Thread nD τ).loc main_arg11)) : Vec Ideal S2x2816x1024 .f32) y

theorem prep4 : (V m c main_v0 : Vec Ideal S2x512x512 .bf16) = a4 m c := by
  funext y
  entry_read
  rfl

theorem prep5 : (V m c main_v1 : Vec Ideal S2x1x512 .f32) = a5 m c := by
  funext y
  idx_vars y
  entry_read
  pointwise
  rfl

theorem prep6 : (V m c main_v2 : Vec Ideal S2x1x512 .f32) = a6 m c := by
  funext y
  idx_vars y
  entry_read
  pointwise
  rfl

theorem prep7 : (V m c main_v3 : Vec Ideal S2x1024x1024 .bf16) = a7 m c := by
  funext y
  entry_read
  rfl

theorem prep8 : (V m c main_v4 : Vec Ideal S2x1x1024 .f32) = a8 m c := by
  funext y
  idx_vars y
  entry_read
  pointwise
  rfl

theorem prep9 : (V m c main_v5 : Vec Ideal S2x1024x2816 .bf16) = a9 m c := by
  funext y
  entry_read
  rfl

theorem prep10 : (V m c main_v6 : Vec Ideal S2x1024x2816 .bf16) = a10 m c := by
  funext y
  entry_read
  rfl

theorem prep11 : (V m c main_v7 : Vec Ideal S2x2816x1024 .bf16) = a11 m c := by
  funext y
  entry_read
  rfl

theorem iblk0 (t : Fin cfg0.N) (i : Fin 768) (k : Fin 1024) (p : Fin 33024) (hp : p.val = t.val * 768 + i.val) :
    (iblk m c 0 t : Vec Ideal S768x1024 .f32) (ix2 i k) = a0 m c (ix2 p k) := by
  rw [a0, ← V_main_arg0 m c]
  blk_ext [iblk, idx t]

theorem iblk1 (t : Fin cfg0.N) (i : Fin 768) (k : Fin 256) (p : Fin 33024) (hp : p.val = t.val * 768 + i.val) :
    (iblk m c 1 t : Vec Ideal S768x256 .bf16) (ix2 i k) = a1 m c (ix2 p k) := by
  rw [a1, ← V_main_arg1 m c]
  blk_ext [iblk, idx t]

theorem iblk2 (t : Fin cfg0.N) (i : Fin 768) (k : Fin 256) (p : Fin 33024) (hp : p.val = t.val * 768 + i.val) :
    (iblk m c 2 t : Vec Ideal S768x256 .bf16) (ix2 i k) = a2 m c (ix2 p k) := by
  rw [a2, ← V_main_arg2 m c]
  blk_ext [iblk, idx t]

theorem iblk3 (t : Fin cfg0.N) (i : Fin 768) (k : Fin 512) (p : Fin 33024) (hp : p.val = t.val * 768 + i.val) :
    (iblk m c 3 t : Vec Ideal S768x512 .f32) (ix2 i k) = a3 m c (ix2 p k) := by
  rw [a3, ← V_main_arg3 m c]
  blk_ext [iblk, idx t]

theorem iblk4 (t : Fin cfg0.N) (k f : Fin 512) :
    (iblk m c 4 t : Vec Ideal S1x512x512 .bf16) (ix3 0 k f) = a4 m c (ix3 0 k f) := by
  rw [← prep4 m c]
  blk_ext [iblk, idx t]

theorem iblk5 (t : Fin cfg0.N) (k : Fin 512) :
    (iblk m c 5 t : Vec Ideal S1x1x512 .f32) (ix3 0 0 k) = a5 m c (ix3 0 0 k) := by
  rw [← prep5 m c]
  blk_ext [iblk, idx t]

theorem iblk6 (t : Fin cfg0.N) (k : Fin 512) :
    (iblk m c 6 t : Vec Ideal S1x1x512 .f32) (ix3 0 0 k) = a6 m c (ix3 0 0 k) := by
  rw [← prep6 m c]
  blk_ext [iblk, idx t]

theorem iblk7 (t : Fin cfg0.N) (k f : Fin 1024) :
    (iblk m c 7 t : Vec Ideal S1x1024x1024 .bf16) (ix3 0 k f) = a7 m c (ix3 0 k f) := by
  rw [← prep7 m c]
  blk_ext [iblk, idx t]

theorem iblk8 (t : Fin cfg0.N) (k : Fin 1024) :
    (iblk m c 8 t : Vec Ideal S1x1x1024 .f32) (ix3 0 0 k) = a8 m c (ix3 0 0 k) := by
  rw [← prep8 m c]
  blk_ext [iblk, idx t]

theorem iblk9 (t : Fin cfg0.N) (k : Fin 1024) (f : Fin 2816) :
    (iblk m c 9 t : Vec Ideal S1x1024x2816 .bf16) (ix3 0 k f) = a9 m c (ix3 0 k f) := by
  rw [← prep9 m c]
  blk_ext [iblk, idx t]

theorem iblk10 (t : Fin cfg0.N) (k : Fin 1024) (f : Fin 2816) :
    (iblk m c 10 t : Vec Ideal S1x1024x2816 .bf16) (ix3 0 k f) = a10 m c (ix3 0 k f) := by
  rw [← prep10 m c]
  blk_ext [iblk, idx t]

theorem iblk11 (t : Fin cfg0.N) (f : Fin 2816) (j : Fin 1024) :
    (iblk m c 11 t : Vec Ideal S1x2816x1024 .bf16) (ix3 0 f j) = a11 m c (ix3 0 f j) := by
  rw [← prep11 m c]
  blk_ext [iblk, idx t]

theorem hid_row (t : Fin cfg0.N) (i : Fin 768) (j : Fin 1024) (p : Fin 33024) (hp : p.val = t.val * 768 + i.val) :
    hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = row 0 (a0 m c) (a1 m c) (a2 m c) (a3 m c) (a4 m c) (a5 m c) (a6 m c) (a7 m c) (a8 m c) (a9 m c) (a10 m c) (a11 m c) p j := by
  refine (hid_at _ _ _ _ _ _ _ _ _ _ _ _ i j).trans ?_
  unfold row
  simp only [iblk0 m c t i _ p hp, iblk1 m c t i _ p hp, iblk2 m c t i _ p hp, iblk3 m c t i _ p hp, iblk4, iblk5, iblk6, iblk7, iblk8, iblk9, iblk10, iblk11]

theorem final12 : (dats m 0 c).arrAt 12 (cfgs 0).N = G (a0 m c) (a1 m c) (a2 m c) (a3 m c) (a4 m c) (a5 m c) (a6 m c) (a7 m c) (a8 m c) (a9 m c) (a10 m c) (a11 m c) := by
  refine (dats m 0 c).arrAt_eq_of_covers 12 _ (by decide +kernel) fun t _ y => ?_
  blk_simp
  rw [after0_12, out12]
  idx_vars y
  refine (hid_row m c t _ _ _ ?_).trans (congrArg (row _ _ _ _ _ _ _ _ _ _ _ _ _ _) (Fin.ext ?_))
  all_goals (blk_simp [idx t] <;> try omega)

/-- The kernel's run: the array, the arguments as they were. -/
theorem run (g : Dev nD → PrngReg) : θ_run defs (onTc (τ := τ) (main (F := Ideal))) ⟨m, fun _ => 0, g⟩ fun r => ∀ c : Dev nD,
      r.2.mem ((c.tc : Thread nD τ).loc main_v8) = G (a0 m c) (a1 m c) (a2 m c) (a3 m c) (a4 m c) (a5 m c) (a6 m c) (a7 m c) (a8 m c) (a9 m c) (a10 m c) (a11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (θ_run_and (Cert.Kernel4Ideal.Gen.run_main m g) (Cert.Kernel4Ideal.Gen.unchanged m g))
  obtain ⟨h, ha⟩ := h
  exact ⟨((h c).1 12).trans (final12 m c), ha c⟩

end final

end Cert.Kernel4Ideal.Mix

end
-- ==== Proof.Val4.Ref.lean ====
/-
  A layer's second half, reference's side: the same array.
-/
module

public import proofs.«01_k».proof.Proof.Val4.Final
public import proofs.«01_k».proof.Proof.Gen.Reference4Ideal.Read

@[expose] public section

set_option maxRecDepth 16384

noncomputable section

namespace Cert.Reference4Ideal.Mix

open Cert.Reference4Ideal Cert.Reference4Ideal.Gen
open Cert.Reference4Ideal.Read
open Cert.Kernel2Ideal.Ffn (cn ce ch)
open Cert.Kernel3Ideal.Mix (c5 row)
open Cert.Kernel4Ideal.Mix (G)
open Idealize.ShloMosaic Idealize.ShloMosaic.TcCoe Idealize.SL.Sem

variable (x0 : Vec Ideal S33024x1024 .f32) (x1 x2 : Vec Ideal S33024x256 .bf16) (x3 : Vec Ideal S33024x512 .f32) (x4 : Vec Ideal S2x512x512 .f32)
  (x5 x6 : Vec Ideal S2x512 .f32) (x7 : Vec Ideal S2x1024x1024 .f32) (x8 : Vec Ideal S2x1024 .f32) (x9 x10 : Vec Ideal S2x1024x2816 .f32)
  (x11 : Vec Ideal S2x2816x1024 .f32) (p : Fin 33024)

theorem gated_at (k : Fin 512) :
    val_main_v14 (F := Ideal) x3 x4 x5 (ix2 p k) = x3 (ix2 p k) * Ideal.logistic (Rows.lin (fun k => x3 (ix2 p k)) (fun k f => x4 (ix3 0 k f)) k
      + x5 (ix2 0 k)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

theorem o5_at (k : Fin 512) :
    val_main_v29 (F := Ideal) x3 x4 x5 x6 (ix2 p k) = Rows.unit5 c5 ce (fun k => x3 (ix2 p k)) (fun k f => x4 (ix3 0 k f)) (fun k => x5 (ix2 0 k)) (fun k => x6 (ix2 0 k)) k := by
  pointwise [val_main_v29, val_main_v28, val_main_v27, val_main_v26, val_main_v25, val_main_v24, val_main_v23, val_main_v22, val_main_v21, val_main_v20, val_main_v19, val_main_v18, val_main_v17, val_main_v16, val_main_v15, val_main_cst_1, val_main_cst_2, val_main_cst_3]
  simp only [gated_at]
  rfl

theorem cat_sb (k : Fin 256) : val_main_v32 (F := Ideal) x1 x2 x3 x4 x5 x6 (ix2 p ⟨0 + k, by omega⟩) = x1 (ix2 p k) := by
  pointwise [val_main_v32, val_main_v30]

theorem cat_dn (k : Fin 256) : val_main_v32 (F := Ideal) x1 x2 x3 x4 x5 x6 (ix2 p ⟨256 + k, by omega⟩) = x2 (ix2 p k) := by
  pointwise [val_main_v32, val_main_v31]

theorem cat_s5 (k : Fin 512) :
    val_main_v32 (F := Ideal) x1 x2 x3 x4 x5 x6 (ix2 p ⟨512 + k, by omega⟩) = val_main_v29 (F := Ideal) x3 x4 x5 x6 (ix2 p k) := by
  pointwise [val_main_v32]
  rw [dif_neg (by omega), dif_neg (by omega)]
  exact congrArg (fun k => val_main_v29 (F := Ideal) x3 x4 x5 x6 (ix2 p k)) (Fin.ext (by show 512 + k.val - 256 - 256 = k.val; omega))

theorem mixed_at (j : Fin 1024) :
    val_main_v36 (F := Ideal) x0 x1 x2 x3 x4 x5 x6 x7 (ix2 p j) = x0 (ix2 p j) + Rows.mix (fun k => x1 (ix2 p k)) (fun k => x2 (ix2 p k))
      (Rows.unit5 c5 ce (fun k => x3 (ix2 p k)) (fun k f => x4 (ix3 0 k f)) (fun k => x5 (ix2 0 k)) (fun k => x6 (ix2 0 k))) (fun k j => x7 (ix3 0 k j)) j := by
  have h := Rows.lin_mix (fun k => val_main_v32 (F := Ideal) x1 x2 x3 x4 x5 x6 (ix2 p k)) (fun k j => x7 (ix3 0 k j)) j
  simp only [cat_sb, cat_dn, cat_s5, o5_at] at h
  pointwise [val_main_v36, val_main_v35, val_main_v34, val_main_v33]
  exact congrArg (x0 (ix2 p j) + ·) h

theorem xn_at (j : Fin 1024) :
    val_main_v51 (F := Ideal) x0 x1 x2 x3 x4 x5 x6 x7 x8 (ix2 p j)
      = Rows.rms cn ce (fun k => val_main_v36 (F := Ideal) x0 x1 x2 x3 x4 x5 x6 x7 (ix2 p k)) (fun k => x8 (ix2 0 k)) j := by
  pointwise [val_main_v51, val_main_v50, val_main_v49, val_main_v48, val_main_v47, val_main_v46, val_main_v45, val_main_v44, val_main_v43, val_main_v42, val_main_v41, val_main_v40, val_main_v39, val_main_v38, val_main_v37, val_main_cst_4, val_main_cst_5, val_main_cst_6]
  rfl

theorem act_at (f : Fin 2816) :
    val_main_v61 (F := Ideal) x0 x1 x2 x3 x4 x5 x6 x7 x8 x9 x10 (ix2 p f)
      = Rows.act (fun k => val_main_v51 (F := Ideal) x0 x1 x2 x3 x4 x5 x6 x7 x8 (ix2 p k)) (fun k f => x9 (ix3 0 k f))
        (fun k f => x10 (ix3 0 k f)) f := by
  pointwise [val_main_v61, val_main_v60, val_main_v59, val_main_v58, val_main_v55, val_main_v54, val_main_v53, val_main_v52, val_main_call0_v5, val_main_call0_v4,
    val_main_call0_v3, val_main_call0_v2, val_main_call0_v1, val_main_call0_v0, val_main_call0_cst, val_main_call0_cst_0]
  rfl

theorem row_at (j : Fin 1024) : val_main_v65 (F := Ideal) x0 x1 x2 x3 x4 x5 x6 x7 x8 x9 x10 x11 (ix2 p j) = row 0 x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) p j := by
  pointwise [val_main_v65, val_main_v64, val_main_v63, val_main_v62, val_main_v57, val_main_v56, val_main_cst_7]
  simp only [act_at, xn_at, mixed_at]
  rfl

theorem ref : val_main_v65 (F := Ideal) x0 x1 x2 x3 x4 x5 x6 x7 x8 x9 x10 x11 = G x0 x1 x2 x3 (fun y => x4 y) (fun y => x5 (ix2 (y 0) (y 2))) (fun y => x6 (ix2 (y 0) (y 2))) (fun y => x7 y) (fun y => x8 (ix2 (y 0) (y 2))) (fun y => x9 y) (fun y => x10 y) (fun y => x11 y) := by
  funext y
  idx_vars y
  exact row_at x0 x1 x2 x3 x4 x5 x6 x7 x8 x9 x10 x11 _ _

variable (m : (ℓ : Loc nD τ sig) → Buf (Elt Ideal) ℓ) (c : Dev nD)

/-- The arguments. -/
abbrev b0 : Vec Ideal S33024x1024 .f32 := m ((c : Thread nD τ).loc main_arg0)
abbrev b1 : Vec Ideal S33024x256 .bf16 := m ((c : Thread nD τ).loc main_arg1)
abbrev b2 : Vec Ideal S33024x256 .bf16 := m ((c : Thread nD τ).loc main_arg2)
abbrev b3 : Vec Ideal S33024x512 .f32 := m ((c : Thread nD τ).loc main_arg3)
abbrev b4 : Vec Ideal Cert.Kernel3Ideal.S2x512x512 .bf16 := fun y => (m ((c : Thread nD τ).loc main_arg4) : Vec Ideal S2x512x512 .f32) y
abbrev b5 : Vec Ideal Cert.Kernel3Ideal.S2x1x512 .f32 := fun y => (m ((c : Thread nD τ).loc main_arg5) : Vec Ideal S2x512 .f32) (ix2 (y 0) (y 2))
abbrev b6 : Vec Ideal Cert.Kernel3Ideal.S2x1x512 .f32 := fun y => (m ((c : Thread nD τ).loc main_arg6) : Vec Ideal S2x512 .f32) (ix2 (y 0) (y 2))
abbrev b7 : Vec Ideal Cert.Kernel3Ideal.S2x1024x1024 .bf16 := fun y => (m ((c : Thread nD τ).loc main_arg7) : Vec Ideal S2x1024x1024 .f32) y
abbrev b8 : Vec Ideal Cert.Kernel3Ideal.S2x1x1024 .f32 := fun y => (m ((c : Thread nD τ).loc main_arg8) : Vec Ideal S2x1024 .f32) (ix2 (y 0) (y 2))
abbrev b9 : Vec Ideal Cert.Kernel3Ideal.S2x1024x2816 .bf16 := fun y => (m ((c : Thread nD τ).loc main_arg9) : Vec Ideal S2x1024x2816 .f32) y
abbrev b10 : Vec Ideal Cert.Kernel3Ideal.S2x1024x2816 .bf16 := fun y => (m ((c : Thread nD τ).loc main_arg10) : Vec Ideal S2x1024x2816 .f32) y
abbrev b11 : Vec Ideal Cert.Kernel3Ideal.S2x2816x1024 .bf16 := fun y => (m ((c : Thread nD τ).loc main_arg11) : Vec Ideal S2x2816x1024 .f32) y

/-- The reference's run: the array, the arguments as they were. -/
theorem run (g : Dev nD → PrngReg) : θ_run defs (onTc (τ := τ) (main (F := Ideal))) ⟨m, fun _ => 0, g⟩ fun r => ∀ c : Dev nD,
      r.2.mem ((c.tc : Thread nD τ).loc main_v65) = G (b0 m c) (b1 m c) (b2 m c) (b3 m c) (b4 m c) (b5 m c) (b6 m c) (b7 m c) (b8 m c) (b9 m c) (b10 m c) (b11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (Cert.Reference4Ideal.Value.run (F := Ideal) m g)
  exact ⟨(h c).1.trans ((val_main_v65_eq m c).trans (ref _ _ _ _ _ _ _ _ _ _ _ _)), (h c).2⟩

end Cert.Reference4Ideal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.KI.Frame
public import proofs.«01_k».proof.Proof.K.Frame
public import proofs.«01_k».proof.Proof.Val.Final
public import proofs.«01_k».proof.Proof.Val.Ref
public import proofs.«01_k».proof.Proof.Val2.Final
public import proofs.«01_k».proof.Proof.Val2.Ref
public import proofs.«01_k».proof.Proof.Val3.Final
public import proofs.«01_k».proof.Proof.Val3.Ref
public import proofs.«01_k».proof.Proof.Val4.Final
public import proofs.«01_k».proof.Proof.Val4.Ref
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention reference's frame: its operations write nothing but their own results. -/
theorem frame_ref : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

theorem frame_ref2 : Cert.quiescent_Reference2Ideal (hReference2Ideal := Cert.Reference2Ideal.Gen.facts) := by
  intro m g _
  exact (θ_run Cert.Reference2Ideal.defs _ _).mono
    (fun r h => ⟨fun c => (h c).2.2.2.2.2.2.2.2, sem_eq_zero_of_no_sems (by decide) r.2⟩) (Cert.Reference2Ideal.Value.run (F := Ideal) m g)

theorem frame_ref3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

theorem frame_ref4 : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run (F := Ideal) m g)

/-- Both programs leave the same attention. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Sb.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run _ _ _).mono (fun r h c => ⟨(h.2 c).trans (Cert.KernelIdeal.Sb.final m c), h.1.1 c⟩) (Cert.KernelIdeal.Sb.run_all m g)
  · refine (θ_run _ _ _).mono (fun r h c => ⟨?_, (h c).2⟩) (Cert.ReferenceIdeal.Value.run (F := Ideal) m' g')
    obtain ⟨e0, e1, e2, e3⟩ := hagree c
    refine (h c).1.trans ?_
    rw [Cert.ReferenceIdeal.Read.val_main_v48_eq, e0, e1, e2, e3]
    exact funext fun y => Cert.ReferenceIdeal.Sb.ref_at _ _ y

open Cert.Kernel2Ideal.Ffn Cert.Reference2Ideal.Ffn in
/-- Both programs leave the same eight arrays. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => G7 (a0 m c) (a1 m c) (a2 m c) (a3 m c) (a4 m c),
    fun c => Gq (a0 m c) (a1 m c) (a2 m c) (a3 m c) (a4 m c) (a5 m c) (a6 m c),
    fun c => Gp (a0 m c) (a1 m c) (a2 m c) (a3 m c) (a4 m c) (a5 m c) (a6 m c) 256 256 (by decide),
    fun c => Gp (a0 m c) (a1 m c) (a2 m c) (a3 m c) (a4 m c) (a5 m c) (a6 m c) 256 512 (by decide),
    fun c => Gp (a0 m c) (a1 m c) (a2 m c) (a3 m c) (a4 m c) (a5 m c) (a6 m c) 768 768 (by decide),
    fun c => Gp (a0 m c) (a1 m c) (a2 m c) (a3 m c) (a4 m c) (a5 m c) (a6 m c) 256 1536 (by decide),
    fun c => Gp (a0 m c) (a1 m c) (a2 m c) (a3 m c) (a4 m c) (a5 m c) (a6 m c) 128 1792 (by decide),
    fun c => Gp (a0 m c) (a1 m c) (a2 m c) (a3 m c) (a4 m c) (a5 m c) (a6 m c) 512 1920 (by decide), Cert.Kernel2Ideal.Ffn.run m g, ?_⟩
  refine (θ_run _ _ _).mono (fun r h c => ?_) (Cert.Reference2Ideal.Ffn.run m' g')
  obtain ⟨h0, h1, h2, h3, h4, h5, h6, h7, ha⟩ := h c
  obtain ⟨e0, e1, e2, e3, e4, e5, e6, e7⟩ := hagree c
  have E7 : G7 (b0 m' c) (b1 m' c) (b2 m' c) (b3 m' c) (b4 m' c) = G7 (a0 m c) (a1 m c) (a2 m c) (a3 m c) (a4 m c) := by rw [b0, b1, b2, b3, b4, e0, e1, e2, e3, e4, e5]
  have Eq : Gq (b0 m' c) (b1 m' c) (b2 m' c) (b3 m' c) (b4 m' c) (b5 m' c) (b6 m' c) = Gq (a0 m c) (a1 m c) (a2 m c) (a3 m c) (a4 m c) (a5 m c) (a6 m c) := by
    rw [b0, b1, b2, b3, b4, b5, b6, e0, e1, e2, e3, e4, e5, e6, e7]
  have Ep (n o ho) : Gp (b0 m' c) (b1 m' c) (b2 m' c) (b3 m' c) (b4 m' c) (b5 m' c) (b6 m' c) n o ho = Gp (a0 m c) (a1 m c) (a2 m c) (a3 m c) (a4 m c) (a5 m c) (a6 m c) n o ho := by
    rw [b0, b1, b2, b3, b4, b5, b6, e0, e1, e2, e3, e4, e5, e6, e7]
  exact ⟨h0.trans E7, h1.trans Eq, h2.trans (Ep ..), h3.trans (Ep ..), h4.trans (Ep ..), h5.trans (Ep ..), h6.trans (Ep ..), h7.trans (Ep ..), ha⟩

open Cert.Kernel3Ideal.Mix Cert.Reference3Ideal.Mix in
/-- Both programs leave the same final array. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => H (a0 m c) (a1 m c) (a2 m c) (a3 m c) (a4 m c) (a5 m c) (a6 m c) (a7 m c) (a8 m c) (a9 m c) (a10 m c) (a11 m c) (a12 m c),
    Cert.Kernel3Ideal.Mix.run m g, ?_⟩
  refine (θ_run _ _ _).mono (fun r h c => ?_) (Cert.Reference3Ideal.Mix.run m' g')
  obtain ⟨e0, e1, e2, e3, e4, e5, e6, e7, e8, e9, e10, e11, e12⟩ := hagree c
  exact ⟨(h c).1.trans (by delta b0 b1 b2 b3 b4 b5 b6 b7 b8 b9 b10 b11 b12; rw [e0, e1, e2, e3, e4, e5, e6, e7, e8, e9, e10, e11, e12]), (h c).2⟩

open Cert.Kernel4Ideal.Mix Cert.Reference4Ideal.Mix in
/-- Both programs leave the same array of the first layer. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => G (a0 m c) (a1 m c) (a2 m c) (a3 m c) (a4 m c) (a5 m c) (a6 m c) (a7 m c) (a8 m c) (a9 m c) (a10 m c) (a11 m c),
    Cert.Kernel4Ideal.Mix.run m g, ?_⟩
  refine (θ_run _ _ _).mono (fun r h c => ?_) (Cert.Reference4Ideal.Mix.run m' g')
  obtain ⟨e0, e1, e2, e3, e4, e5, e6, e7, e8, e9, e10, e11⟩ := hagree c
  exact ⟨(h c).1.trans (by delta b0 b1 b2 b3 b4 b5 b6 b7 b8 b9 b10 b11; rw [e0, e1, e2, e3, e4, e5, e6, e7, e8, e9, e10, e11]), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Sb.frame m g, fun m g _ => Cert.KernelIdeal.Sb.frame m g, frame_ref,
  fun m g _ => Cert.Kernel2.Gen.frame m g, fun m g _ => Cert.Kernel2Ideal.Gen.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  IdealRules.named_const.statement _ _ _ _ _ rfl, trivial, trivial, trivial, algebraic, algebraic2, algebraic3, algebraic4⟩

end Cert.Proof

end
